-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ranges : Cert.Pre_ranges.Facts) (hPre_drawn : Cert.Pre_drawn.Facts),
    quiescent_Kernel (hKernel := hKernel) (hPre_ranges := hPre_ranges)
    ∧ quiescent_KernelIdeal (hKernelIdeal := hKernelIdeal) (hPre_ranges := hPre_ranges)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S4096x200 : Shape := ⟨2, ![4096, 200]⟩
abbrev S4096 : Shape := ⟨1, ![4096]⟩
abbrev S100002x128 : Shape := ⟨2, ![100002, 128]⟩
abbrev S_ : Shape := ⟨0, ![]⟩
abbrev S1x128 : Shape := ⟨2, ![1, 128]⟩
abbrev S128 : Shape := ⟨1, ![128]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096 : S_.BroadcastsInDim S4096 (![] : Fin 0 → Fin S4096.rank)
  reducesTo_S4096_S_d0 : S4096.ReducesTo [0] S_
  slices_S100002x128_S1x128_100001_0 : S100002x128.Slices ![100001, 0] S1x128
  shapeCasts_S1x128_S128 : S1x128.ShapeCasts S128
  bcast_S_S128 : S_.BroadcastsInDim S128 (![] : Fin 0 → Fin S128.rank)
  reducesTo_S128_S_d0 : S128.ReducesTo [0] S_

variable [Facts]

def fn_part1 {F : FTy → Type} [FloatOps F] (main_v12 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v12 main_v18
  main_v19

def fn {F : FTy → Type} [FloatOps F] (main_arg0 : IVec S4096x200 32) (main_arg1 : IVec S4096 32) (main_arg2 : FVec F S100002x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 200#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  let main_v13 : FVec F S1x128 .f32 := (extractStridedSlice S1x128 ![100001, 0] · slices_S100002x128_S1x128_100001_0) main_arg2
  let main_v14 : FVec F S128 .f32 := shapeCast S128 main_v13 shapeCasts_S1x128_S128
  let main_v15 : FVec F S128 .f32 := Host.absf main_v14
  let main_cst : FVec F S_ .f32 := constant S_ .f32 0x7F800000#32
  let main_v16 : FVec F S128 .f32 := broadcastInDim S128 ![] bcast_S_S128 main_cst
  fn_part1 (F := F) main_v12 main_v15 main_v16
-- ==== Pre_ranges.lean ====
abbrev S4096x200 : Shape := ⟨2, ![4096, 200]⟩
abbrev S4096 : Shape := ⟨1, ![4096]⟩
abbrev S100002x128 : Shape := ⟨2, ![100002, 128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : IVec S4096x200 32) (main_arg1 : IVec S4096 32) (main_arg2 : FVec F S100002x128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 100000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg1 main_v6
  let main_c_3 : IVec S_ 32 := constantI S_ 32 200#32
  let main_v8 : IVec S4096 32 := broadcastInDim S4096 ![] bcast_S_S4096 main_c_3
  let main_v9 : IVec S4096 1 := cmpi .slt main_arg1 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  main_v12
-- ==== Kernel.lean ====
abbrev S4096x200 : Shape := ⟨2, ![4096, 200]⟩
abbrev S4096 : Shape := ⟨1, ![4096]⟩
abbrev S100002x128 : Shape := ⟨2, ![100002, 128]⟩
abbrev S16384x50 : Shape := ⟨2, ![16384, 50]⟩
abbrev S4096x256 : Shape := ⟨2, ![4096, 256]⟩
abbrev S512x50 : Shape := ⟨2, ![512, 50]⟩
abbrev S128 : Shape := ⟨1, ![128]⟩
abbrev S1x128 : Shape := ⟨2, ![1, 128]⟩
abbrev S50x128 : Shape := ⟨2, ![50, 128]⟩
abbrev S128x256 : Shape := ⟨2, ![128, 256]⟩
abbrev S_ : Shape := ⟨0, ![]⟩
abbrev S16 : Shape := ⟨1, ![16]⟩
abbrev S1x16 : Shape := ⟨2, ![1, 16]⟩
abbrev S1x50 : Shape := ⟨2, ![1, 50]⟩
abbrev S50 : Shape := ⟨1, ![50]⟩

abbrev nBuf : Table → Nat
  | .hbm => 5
  | .local .scVector .vmem => 5
  | _ => 0

abbrev bufTy : (tb : Table) → Fin (nBuf tb) → BufTy
  | .hbm, ⟨0, _⟩ => ⟨S4096x200, .i32⟩
  | .hbm, ⟨1, _⟩ => ⟨S4096, .i32⟩
  | .hbm, ⟨2, _⟩ => ⟨S100002x128, .f32⟩
  | .hbm, ⟨3, _⟩ => ⟨S16384x50, .i32⟩
  | .hbm, ⟨4, _⟩ => ⟨S4096x256, .f32⟩
  | .local .scVector .vmem, ⟨0, _⟩ => ⟨S512x50, .i32⟩
  | .local .scVector .vmem, ⟨1, _⟩ => ⟨S128, .i32⟩
  | .local .scVector .vmem, ⟨2, _⟩ => ⟨S1x128, .f32⟩
  | .local .scVector .vmem, ⟨3, _⟩ => ⟨S50x128, .f32⟩
  | .local .scVector .vmem, ⟨4, _⟩ => ⟨S128x256, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c4_i32 : BitVec 32 := 4#32
  let v3 : BitVec 32 := Scalar.muli v2 c4_i32
  let c0_i32_4_r0 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k0_t1_loop : Scf.Loop 32 :=
  let c0_i32_1 : BitVec 32 := 0#32
  let c128_i32_2 : BitVec 32 := 128#32
  let v7 : BitVec 32 := Scalar.addi c0_i32_1 c128_i32_2
  let c1_i32 : BitVec 32 := 1#32
  ⟨c0_i32_1, v7, c1_i32⟩
def k0_off3 (k0_t1 : Fin k0_t1_loop.trips) : Fin 1 → Nat :=
  let c0_i32_1 : BitVec 32 := 0#32
  let c1_i32 : BitVec 32 := 1#32
  let arg12 : BitVec 32 := Scf.iv c0_i32_1 c1_i32 k0_t1
  let c4_i32_4 : BitVec 32 := 4#32
  let v8 : BitVec 32 := Scalar.shrui arg12 c4_i32_4
  let c16_i32_5 : BitVec 32 := 16#32
  let v11 : BitVec 32 := Scalar.muli v8 c16_i32_5
  let v12 : Index := Scalar.indexCast v11
  ![v12.toNat]
@[reducible] def k0_t2_loop (v23 : BitVec 32) : Scf.Loop 32 :=
  let c0_i32_24 : BitVec 32 := 0#32
  let c1_i32_7 : BitVec 32 := 1#32
  let c200_i32 : BitVec 32 := 200#32
  let v24 : BitVec 32 := Scalar.subi c200_i32 v23
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_26 : BitVec 32 := 1#32
  ⟨c0_i32_24, v70, c1_i32_26⟩

def k0_off4 (k0_t1 : Fin k0_t1_loop.trips) (v23 : BitVec 32) (k0_t2 : Fin (k0_t2_loop v23).trips) : Fin 2 → Nat :=
  let c0_i32_1 : BitVec 32 := 0#32
  let c1_i32 : BitVec 32 := 1#32
  let arg12 : BitVec 32 := Scf.iv c0_i32_1 c1_i32 k0_t1
  let c4_i32_38 : BitVec 32 := 4#32
  let v119 : BitVec 32 := Scalar.muli arg12 c4_i32_38
  let c0_i32_24 : BitVec 32 := 0#32
  let c1_i32_26 : BitVec 32 := 1#32
  let arg13 : BitVec 32 := Scf.iv c0_i32_24 c1_i32_26 k0_t2
  let v120 : BitVec 32 := Scalar.addi v119 arg13
  let c0_i32_39 : BitVec 32 := 0#32
  ![v120.toNat, 0]
@[reducible] def k0_t3_loop (v23 : BitVec 32) (k0_t2 : Fin (k0_t2_loop v23).trips) : Scf.Loop 32 :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_49 : BitVec 32 := 1#32
  ⟨c0_i32_47, v134, c1_i32_49⟩
def k0_off5 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v137 : Index := Scalar.indexCast arg30
  let c0_51 : Index := 0#32
  ![v137.toNat, 0]
def k0_off6 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v139 : Index := Scalar.indexCast arg30
  let c16_52 : Index := 16#32
  ![v139.toNat, 16]
def k0_off7 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v141 : Index := Scalar.indexCast arg30
  let c32_53 : Index := 32#32
  ![v141.toNat, 32]
def k0_off8 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v143 : Index := Scalar.indexCast arg30
  let c48_54 : Index := 48#32
  ![v143.toNat, 48]
def k0_off9 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v145 : Index := Scalar.indexCast arg30
  let c64_55 : Index := 64#32
  ![v145.toNat, 64]
def k0_off10 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v147 : Index := Scalar.indexCast arg30
  let c80_56 : Index := 80#32
  ![v147.toNat, 80]
def k0_off11 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v149 : Index := Scalar.indexCast arg30
  let c96_57 : Index := 96#32
  ![v149.toNat, 96]
def k0_off12 (v23 : BitVec 32) (k0_t2 : Fin (k0_t2_loop v23).trips) (k0_t3 : Fin (k0_t3_loop v23 k0_t2).trips) : Fin 2 → Nat :=
  let c0_i32_47 : BitVec 32 := 0#32
  let c1_i32_49 : BitVec 32 := 1#32
  let arg30 : BitVec 32 := Scf.iv c0_i32_47 c1_i32_49 k0_t3
  let v151 : Index := Scalar.indexCast arg30
  let c112_58 : Index := 112#32
  ![v151.toNat, 112]
@[reducible] def k0_t4_loop (v23 : BitVec 32) (k0_t2 : Fin (k0_t2_loop v23).trips) : Scf.Loop 32 :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let v131 : BitVec 32 := Scalar.addi c0_i32_47 v130
  let c1_i32_50 : BitVec 32 := 1#32
  ⟨v134, v131, c1_i32_50⟩
def k0_off13 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v137 : Index := Scalar.indexCast arg30
  let c0_51 : Index := 0#32
  ![v137.toNat, 0]
def k0_off14 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v139 : Index := Scalar.indexCast arg30
  let c16_52 : Index := 16#32
  ![v139.toNat, 16]
def k0_off15 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v141 : Index := Scalar.indexCast arg30
  let c32_53 : Index := 32#32
  ![v141.toNat, 32]
def k0_off16 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v143 : Index := Scalar.indexCast arg30
  let c48_54 : Index := 48#32
  ![v143.toNat, 48]
def k0_off17 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v145 : Index := Scalar.indexCast arg30
  let c64_55 : Index := 64#32
  ![v145.toNat, 64]
def k0_off18 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v147 : Index := Scalar.indexCast arg30
  let c80_56 : Index := 80#32
  ![v147.toNat, 80]
def k0_off19 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v149 : Index := Scalar.indexCast arg30
  let c96_57 : Index := 96#32
  ![v149.toNat, 96]
def k0_off20 (v23 : BitVec 32) (k0_t2 : Fin (k0_t2_loop v23).trips) (k0_t4 : Fin (k0_t4_loop v23 k0_t2).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_26 : BitVec 32 := 1#32
  let arg13 : BitVec 32 := Scf.iv c0_i32_24 c1_i32_26 k0_t2
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t4
  let v151 : Index := Scalar.indexCast arg30
  let c112_58 : Index := 112#32
  ![v151.toNat, 112]
@[reducible] def k0_t5_loop (v23 : BitVec 32) : Scf.Loop 32 :=
  let c0_i32_24 : BitVec 32 := 0#32
  let c1_i32_7 : BitVec 32 := 1#32
  let c200_i32 : BitVec 32 := 200#32
  let v24 : BitVec 32 := Scalar.subi c200_i32 v23
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let v67 : BitVec 32 := Scalar.addi c0_i32_24 v66
  let c1_i32_27 : BitVec 32 := 1#32
  ⟨v70, v67, c1_i32_27⟩
def k0_off21 (k0_t1 : Fin k0_t1_loop.trips) (v23 : BitVec 32) (k0_t5 : Fin (k0_t5_loop v23).trips) : Fin 2 → Nat :=
  let c0_i32_1 : BitVec 32 := 0#32
  let c1_i32 : BitVec 32 := 1#32
  let arg12 : BitVec 32 := Scf.iv c0_i32_1 c1_i32 k0_t1
  let c4_i32_38 : BitVec 32 := 4#32
  let v119 : BitVec 32 := Scalar.muli arg12 c4_i32_38
  let c0_i32_24 : BitVec 32 := 0#32
  let c1_i32_7 : BitVec 32 := 1#32
  let c200_i32 : BitVec 32 := 200#32
  let v24 : BitVec 32 := Scalar.subi c200_i32 v23
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let v120 : BitVec 32 := Scalar.addi v119 arg13
  let c0_i32_39 : BitVec 32 := 0#32
  ![v120.toNat, 0]
@[reducible] def k0_t6_loop (v23 : BitVec 32) (k0_t5 : Fin (k0_t5_loop v23).trips) : Scf.Loop 32 :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_49 : BitVec 32 := 1#32
  ⟨c0_i32_47, v134, c1_i32_49⟩
def k0_off22 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v137 : Index := Scalar.indexCast arg30
  let c0_51 : Index := 0#32
  ![v137.toNat, 0]
def k0_off23 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v139 : Index := Scalar.indexCast arg30
  let c16_52 : Index := 16#32
  ![v139.toNat, 16]
def k0_off24 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v141 : Index := Scalar.indexCast arg30
  let c32_53 : Index := 32#32
  ![v141.toNat, 32]
def k0_off25 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v143 : Index := Scalar.indexCast arg30
  let c48_54 : Index := 48#32
  ![v143.toNat, 48]
def k0_off26 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v145 : Index := Scalar.indexCast arg30
  let c64_55 : Index := 64#32
  ![v145.toNat, 64]
def k0_off27 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v147 : Index := Scalar.indexCast arg30
  let c80_56 : Index := 80#32
  ![v147.toNat, 80]
def k0_off28 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v149 : Index := Scalar.indexCast arg30
  let c96_57 : Index := 96#32
  ![v149.toNat, 96]
def k0_off29 (v23 : BitVec 32) (k0_t5 : Fin (k0_t5_loop v23).trips) (k0_t6 : Fin (k0_t6_loop v23 k0_t5).trips) : Fin 2 → Nat :=
  let c0_i32_47 : BitVec 32 := 0#32
  let c1_i32_49 : BitVec 32 := 1#32
  let arg30 : BitVec 32 := Scf.iv c0_i32_47 c1_i32_49 k0_t6
  let v151 : Index := Scalar.indexCast arg30
  let c112_58 : Index := 112#32
  ![v151.toNat, 112]
@[reducible] def k0_t7_loop (v23 : BitVec 32) (k0_t5 : Fin (k0_t5_loop v23).trips) : Scf.Loop 32 :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let v131 : BitVec 32 := Scalar.addi c0_i32_47 v130
  let c1_i32_50 : BitVec 32 := 1#32
  ⟨v134, v131, c1_i32_50⟩
def k0_off30 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v137 : Index := Scalar.indexCast arg30
  let c0_51 : Index := 0#32
  ![v137.toNat, 0]
def k0_off31 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v139 : Index := Scalar.indexCast arg30
  let c16_52 : Index := 16#32
  ![v139.toNat, 16]
def k0_off32 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v141 : Index := Scalar.indexCast arg30
  let c32_53 : Index := 32#32
  ![v141.toNat, 32]
def k0_off33 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v143 : Index := Scalar.indexCast arg30
  let c48_54 : Index := 48#32
  ![v143.toNat, 48]
def k0_off34 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v145 : Index := Scalar.indexCast arg30
  let c64_55 : Index := 64#32
  ![v145.toNat, 64]
def k0_off35 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v147 : Index := Scalar.indexCast arg30
  let c80_56 : Index := 80#32
  ![v147.toNat, 80]
def k0_off36 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v149 : Index := Scalar.indexCast arg30
  let c96_57 : Index := 96#32
  ![v149.toNat, 96]
def k0_off37 (v23 : BitVec 32) (k0_t5 : Fin (k0_t5_loop v23).trips) (k0_t7 : Fin (k0_t7_loop v23 k0_t5).trips) : Fin 2 → Nat :=
  let c0_i32_47 : BitVec 32 := 0#32
  let c200_i32 : BitVec 32 := 200#32
  let v24 : BitVec 32 := Scalar.subi c200_i32 v23
  let c0_i32_24 : BitVec 32 := 0#32
  let c1_i32_7 : BitVec 32 := 1#32
  let c50_i32 : BitVec 32 := 50#32
  let v25 : BitVec 1 := Scalar.cmpi .sgt v24 c50_i32
  let v26 : BitVec 32 := Scalar.extui v25
  let v27 : BitVec 32 := Scalar.addi c1_i32_7 v26
  let c100_i32 : BitVec 32 := 100#32
  let v28 : BitVec 1 := Scalar.cmpi .sgt v24 c100_i32
  let v29 : BitVec 32 := Scalar.extui v28
  let v30 : BitVec 32 := Scalar.addi v27 v29
  let c150_i32 : BitVec 32 := 150#32
  let v31 : BitVec 1 := Scalar.cmpi .sgt v24 c150_i32
  let v32 : BitVec 32 := Scalar.extui v31
  let v33 : BitVec 32 := Scalar.addi v30 v32
  let v66 : BitVec 32 := Scalar.subi v33 c0_i32_24
  let c1_i32_25 : BitVec 32 := 1#32
  let v68 : BitVec 32 := Scalar.divsi v66 c1_i32_25
  let v69 : BitVec 32 := Scalar.muli v68 c1_i32_25
  let v70 : BitVec 32 := Scalar.addi c0_i32_24 v69
  let c1_i32_27 : BitVec 32 := 1#32
  let arg13 : BitVec 32 := Scf.iv v70 c1_i32_27 k0_t5
  let c50_i32_45 : BitVec 32 := 50#32
  let v127 : BitVec 32 := Scalar.muli arg13 c50_i32_45
  let v128 : BitVec 32 := Scalar.subi v24 v127
  let c50_i32_46 : BitVec 32 := 50#32
  let v129 : BitVec 32 := Scalar.minsi v128 c50_i32_46
  let v130 : BitVec 32 := Scalar.subi v129 c0_i32_47
  let c1_i32_48 : BitVec 32 := 1#32
  let v132 : BitVec 32 := Scalar.divsi v130 c1_i32_48
  let v133 : BitVec 32 := Scalar.muli v132 c1_i32_48
  let v134 : BitVec 32 := Scalar.addi c0_i32_47 v133
  let c1_i32_50 : BitVec 32 := 1#32
  let arg30 : BitVec 32 := Scf.iv v134 c1_i32_50 k0_t7
  let v151 : Index := Scalar.indexCast arg30
  let c112_58 : Index := 112#32
  ![v151.toNat, 112]

def k0_chk1_0 (k0_t1 : Fin k0_t1_loop.trips) (v23 : BitVec 32) : Prop :=
  ((k0_t2_loop v23).OK) ∧
  (∀ k0_t2 : Fin (k0_t2_loop v23).trips, ∀ a, (k0_off4 k0_t1 v23 k0_t2) a + S1x50.size a ≤ S512x50.size a) ∧
  (∀ k0_t2 : Fin (k0_t2_loop v23).trips, (k0_t3_loop v23 k0_t2).OK) ∧
  (∀ (k0_t2 : Fin (k0_t2_loop v23).trips) (k0_t3 : Fin (k0_t3_loop v23 k0_t2).trips), ∀ a, (k0_off5 v23 k0_t2 k0_t3) a + S1x16.size a ≤ S50x128.size a) ∧
  (∀ (k0_t2 : Fin (k0_t2_loop v23).trips) (k0_t3 : Fin (k0_t3_loop v23 k0_t2).trips), ∀ a, (k0_off6 v23 k0_t2 k0_t3) a + S1x16.size a ≤ S50x128.size a) ∧
  (∀ (k0_t2 : Fin (k0_t2_loop v23).trips) (k0_t3 : Fin (k0_t3_loop v23 k0_t2).trips), ∀ a, (k0_off7 v23 k0_t2 k0_t3) a + S1x16.size a ≤ S50x128.size a) ∧
  (∀ (k0_t2 : Fin (k0_t2_loop v23).trips) (k0_t3 : Fin (k0_t3_loop v23 k0_t2).trips), ∀ a, (k0_off8 v23 k0_t2 k0_t3) a + S1x16.size a ≤ S50x128.size a) ∧
  (∀ (k0_t2 : Fin (k0_t2_loop v23).trips) (k0_t3 : Fin (k0_t3_loop v23 k0_t2).trips), ∀ a, (k0_off9 v23 k0_t2 k0_t3) a + S1x16.size a ≤ S50x128.size a) ∧
  (∀ (k0_t2 : Fin (k0_t2_loop v23).trips) (k0_t3 : Fin (k0_t3_loop v23 k0_t2).trips), ∀ a, (k0_off10 v23 k0_t2 k0_t3) a + S1x16.size a ≤ S50x128.size a) ∧
  (∀ (k0_t2 : Fin (k0_t2_loop v23).trips) (k0_t3 : Fin (k0_t3_loop v23 k0_t2).trips), ∀ a, (k0_off11 v23 k0_t2 k0_t3) a + S1x16.size a ≤ S50x128.size a) ∧
  (∀ (k0_t2 : Fin (k0_t2_loop v23).trips) (k0_t3 : Fin (k0_t3_loop v23 k0_t2).trips), ∀ a, (k0_off12 v23 k0_t2 k0_t3) a + S1x16.size a ≤ S50x128.size a) ∧
  (∀ k0_t2 : Fin (k0_t2_loop v23).trips, (k0_t4_loop v23 k0_t2).OK) ∧
  (∀ (k0_t2 : Fin (k0_t2_loop v23).trips) (k0_t4 : Fin (k0_t4_loop v23 k0_t2).trips), ∀ a, (k0_off13 v23 k0_t2 k0_t4) a + S1x16.size a ≤ S50x128.size a) ∧
  (∀ (k0_t2 : Fin (k0_t2_loop v23).trips) (k0_t4 : Fin (k0_t4_loop v23 k0_t2).trips), ∀ a, (k0_off14 v23 k0_t2 k0_t4) a + S1x16.size a ≤ S50x128.size a) ∧
  (∀ (k0_t2 : Fin (k0_t2_loop v23).trips) (k0_t4 : Fin (k0_t4_loop v23 k0_t2).trips), ∀ a, (k0_off15 v23 k0_t2 k0_t4) a + S1x16.size a ≤ S50x128.size a) ∧
  (∀ (k0_t2 : Fin (k0_t2_loop v23).trips) (k0_t4 : Fin (k0_t4_loop v23 k0_t2).trips), ∀ a, (k0_off16 v23 k0_t2 k0_t4) a + S1x16.size a ≤ S50x128.size a) ∧
  (∀ (k0_t2 : Fin (k0_t2_loop v23).trips) (k0_t4 : Fin (k0_t4_loop v23 k0_t2).trips), ∀ a, (k0_off17 v23 k0_t2 k0_t4) a + S1x16.size a ≤ S50x128.size a) ∧
  (∀ (k0_t2 : Fin (k0_t2_loop v23).trips) (k0_t4 : Fin (k0_t4_loop v23 k0_t2).trips), ∀ a, (k0_off18 v23 k0_t2 k0_t4) a + S1x16.size a ≤ S50x128.size a) ∧
  (∀ (k0_t2 : Fin (k0_t2_loop v23).trips) (k0_t4 : Fin (k0_t4_loop v23 k0_t2).trips), ∀ a, (k0_off19 v23 k0_t2 k0_t4) a + S1x16.size a ≤ S50x128.size a) ∧
  (∀ (k0_t2 : Fin (k0_t2_loop v23).trips) (k0_t4 : Fin (k0_t4_loop v23 k0_t2).trips), ∀ a, (k0_off20 v23 k0_t2 k0_t4) a + S1x16.size a ≤ S50x128.size a) ∧
  ((k0_t5_loop v23).OK) ∧
  (∀ k0_t5 : Fin (k0_t5_loop v23).trips, ∀ a, (k0_off21 k0_t1 v23 k0_t5) a + S1x50.size a ≤ S512x50.size a) ∧
  (∀ k0_t5 : Fin (k0_t5_loop v23).trips, (k0_t6_loop v23 k0_t5).OK) ∧
  (∀ (k0_t5 : Fin (k0_t5_loop v23).trips) (k0_t6 : Fin (k0_t6_loop v23 k0_t5).trips), ∀ a, (k0_off22 v23 k0_t5 k0_t6) a + S1x16.size a ≤ S50x128.size a) ∧
  (∀ (k0_t5 : Fin (k0_t5_loop v23).trips) (k0_t6 : Fin (k0_t6_loop v23 k0_t5).trips), ∀ a, (k0_off23 v23 k0_t5 k0_t6) a + S1x16.size a ≤ S50x128.size a) ∧
  (∀ (k0_t5 : Fin (k0_t5_loop v23).trips) (k0_t6 : Fin (k0_t6_loop v23 k0_t5).trips), ∀ a, (k0_off24 v23 k0_t5 k0_t6) a + S1x16.size a ≤ S50x128.size a) ∧
  (∀ (k0_t5 : Fin (k0_t5_loop v23).trips) (k0_t6 : Fin (k0_t6_loop v23 k0_t5).trips), ∀ a, (k0_off25 v23 k0_t5 k0_t6) a + S1x16.size a ≤ S50x128.size a) ∧
  (∀ (k0_t5 : Fin (k0_t5_loop v23).trips) (k0_t6 : Fin (k0_t6_loop v23 k0_t5).trips), ∀ a, (k0_off26 v23 k0_t5 k0_t6) a + S1x16.size a ≤ S50x128.size a) ∧
  (∀ (k0_t5 : Fin (k0_t5_loop v23).trips) (k0_t6 : Fin (k0_t6_loop v23 k0_t5).trips), ∀ a, (k0_off27 v23 k0_t5 k0_t6) a + S1x16.size a ≤ S50x128.size a) ∧
  (∀ (k0_t5 : Fin (k0_t5_loop v23).trips) (k0_t6 : Fin (k0_t6_loop v23 k0_t5).trips), ∀ a, (k0_off28 v23 k0_t5 k0_t6) a + S1x16.size a ≤ S50x128.size a) ∧
  (∀ (k0_t5 : Fin (k0_t5_loop v23).trips) (k0_t6 : Fin (k0_t6_loop v23 k0_t5).trips), ∀ a, (k0_off29 v23 k0_t5 k0_t6) a + S1x16.size a ≤ S50x128.size a) ∧
  (∀ k0_t5 : Fin (k0_t5_loop v23).trips, (k0_t7_loop v23 k0_t5).OK)
def k0_chk1_1 (k0_t1 : Fin k0_t1_loop.trips) (v23 : BitVec 32) : Prop :=
  (∀ (k0_t5 : Fin (k0_t5_loop v23).trips) (k0_t7 : Fin (k0_t7_loop v23 k0_t5).trips), ∀ a, (k0_off30 v23 k0_t5 k0_t7) a + S1x16.size a ≤ S50x128.size a) ∧
  (∀ (k0_t5 : Fin (k0_t5_loop v23).trips) (k0_t7 : Fin (k0_t7_loop v23 k0_t5).trips), ∀ a, (k0_off31 v23 k0_t5 k0_t7) a + S1x16.size a ≤ S50x128.size a) ∧
  (∀ (k0_t5 : Fin (k0_t5_loop v23).trips) (k0_t7 : Fin (k0_t7_loop v23 k0_t5).trips), ∀ a, (k0_off32 v23 k0_t5 k0_t7) a + S1x16.size a ≤ S50x128.size a) ∧
  (∀ (k0_t5 : Fin (k0_t5_loop v23).trips) (k0_t7 : Fin (k0_t7_loop v23 k0_t5).trips), ∀ a, (k0_off33 v23 k0_t5 k0_t7) a + S1x16.size a ≤ S50x128.size a) ∧
  (∀ (k0_t5 : Fin (k0_t5_loop v23).trips) (k0_t7 : Fin (k0_t7_loop v23 k0_t5).trips), ∀ a, (k0_off34 v23 k0_t5 k0_t7) a + S1x16.size a ≤ S50x128.size a) ∧
  (∀ (k0_t5 : Fin (k0_t5_loop v23).trips) (k0_t7 : Fin (k0_t7_loop v23 k0_t5).trips), ∀ a, (k0_off35 v23 k0_t5 k0_t7) a + S1x16.size a ≤ S50x128.size a) ∧
  (∀ (k0_t5 : Fin (k0_t5_loop v23).trips) (k0_t7 : Fin (k0_t7_loop v23 k0_t5).trips), ∀ a, (k0_off36 v23 k0_t5 k0_t7) a + S1x16.size a ≤ S50x128.size a) ∧
  (∀ (k0_t5 : Fin (k0_t5_loop v23).trips) (k0_t7 : Fin (k0_t7_loop v23 k0_t5).trips), ∀ a, (k0_off37 v23 k0_t5 k0_t7) a + S1x16.size a ≤ S50x128.size a)
def k0_chk1 (k0_t1 : Fin k0_t1_loop.trips) (v23 : BitVec 32) : Prop :=
  k0_chk1_0 k0_t1 v23 ∧
  k0_chk1_1 k0_t1 v23
theorem k0_t2_ok : ∀ (k0_t1 : Fin k0_t1_loop.trips) (v23 : BitVec 32) (k0_hw1 : k0_chk1 k0_t1 v23), (k0_t2_loop v23).OK := fun k0_t1 v23 k0_hw1 => k0_hw1.1.1
theorem k0_off4_inb : ∀ (k0_t1 : Fin k0_t1_loop.trips) (v23 : BitVec 32) (k0_hw1 : k0_chk1 k0_t1 v23) (k0_t2 : Fin (k0_t2_loop v23).trips), ∀ a, (k0_off4 k0_t1 v23 k0_t2) a + S1x50.size a ≤ S512x50.size a := fun k0_t1 v23 k0_hw1 k0_t2 => k0_hw1.1.2.1 k0_t2
theorem k0_t3_ok : ∀ (k0_t1 : Fin k0_t1_loop.trips) (v23 : BitVec 32) (k0_hw1 : k0_chk1 k0_t1 v23) (k0_t2 : Fin (k0_t2_loop v23).trips), (k0_t3_loop v23 k0_t2).OK := fun k0_t1 v23 k0_hw1 k0_t2 => k0_hw1.1.2.2.1 k0_t2
theorem k0_off5_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off5 v23 k0_t2 k0_t3) a + S1x16.size a ≤ S50x128.size a := fun k0_t1 v23 k0_hw1 k0_t2 k0_t3 => k0_hw1.1.2.2.2.1 k0_t2 k0_t3
theorem k0_off6_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off6 v23 k0_t2 k0_t3) a + S1x16.size a ≤ S50x128.size a := fun k0_t1 v23 k0_hw1 k0_t2 k0_t3 => k0_hw1.1.2.2.2.2.1 k0_t2 k0_t3
theorem k0_off7_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off7 v23 k0_t2 k0_t3) a + S1x16.size a ≤ S50x128.size a := fun k0_t1 v23 k0_hw1 k0_t2 k0_t3 => k0_hw1.1.2.2.2.2.2.1 k0_t2 k0_t3
theorem k0_off8_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off8 v23 k0_t2 k0_t3) a + S1x16.size a ≤ S50x128.size a := fun k0_t1 v23 k0_hw1 k0_t2 k0_t3 => k0_hw1.1.2.2.2.2.2.2.1 k0_t2 k0_t3
theorem k0_off9_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off9 v23 k0_t2 k0_t3) a + S1x16.size a ≤ S50x128.size a := fun k0_t1 v23 k0_hw1 k0_t2 k0_t3 => k0_hw1.1.2.2.2.2.2.2.2.1 k0_t2 k0_t3
theorem k0_off10_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off10 v23 k0_t2 k0_t3) a + S1x16.size a ≤ S50x128.size a := fun k0_t1 v23 k0_hw1 k0_t2 k0_t3 => k0_hw1.1.2.2.2.2.2.2.2.2.1 k0_t2 k0_t3
theorem k0_off11_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off11 v23 k0_t2 k0_t3) a + S1x16.size a ≤ S50x128.size a := fun k0_t1 v23 k0_hw1 k0_t2 k0_t3 => k0_hw1.1.2.2.2.2.2.2.2.2.2.1 k0_t2 k0_t3
theorem k0_off12_inb : ∀ (k0_t1 : Fin k0_t1_loop.trips) (v23 : BitVec 32) (k0_hw1 : k0_chk1 k0_t1 v23) (k0_t2 : Fin (k0_t2_loop v23).trips) (k0_t3 : Fin (k0_t3_loop v23 k0_t2).trips), ∀ a, (k0_off12 v23 k0_t2 k0_t3) a + S1x16.size a ≤ S50x128.size a := fun k0_t1 v23 k0_hw1 k0_t2 k0_t3 => k0_hw1.1.2.2.2.2.2.2.2.2.2.2.1 k0_t2 k0_t3
theorem k0_t4_ok : ∀ (k0_t1 : Fin k0_t1_loop.trips) (v23 : BitVec 32) (k0_hw1 : k0_chk1 k0_t1 v23) (k0_t2 : Fin (k0_t2_loop v23).trips), (k0_t4_loop v23 k0_t2).OK := fun k0_t1 v23 k0_hw1 k0_t2 => k0_hw1.1.2.2.2.2.2.2.2.2.2.2.2.1 k0_t2
theorem k0_off13_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off13 v23 k0_t2 k0_t4) a + S1x16.size a ≤ S50x128.size a := fun k0_t1 v23 k0_hw1 k0_t2 k0_t4 => k0_hw1.1.2.2.2.2.2.2.2.2.2.2.2.2.1 k0_t2 k0_t4
theorem k0_off14_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off14 v23 k0_t2 k0_t4) a + S1x16.size a ≤ S50x128.size a := fun k0_t1 v23 k0_hw1 k0_t2 k0_t4 => k0_hw1.1.2.2.2.2.2.2.2.2.2.2.2.2.2.1 k0_t2 k0_t4
theorem k0_off15_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off15 v23 k0_t2 k0_t4) a + S1x16.size a ≤ S50x128.size a := fun k0_t1 v23 k0_hw1 k0_t2 k0_t4 => k0_hw1.1.2.2.2.2.2.2.2.2.2.2.2.2.2.2.1 k0_t2 k0_t4
theorem k0_off16_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off16 v23 k0_t2 k0_t4) a + S1x16.size a ≤ S50x128.size a := fun k0_t1 v23 k0_hw1 k0_t2 k0_t4 => k0_hw1.1.2.2.2.2.2.2.2.2.2.2.2.2.2.2.2.1 k0_t2 k0_t4
theorem k0_off17_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off17 v23 k0_t2 k0_t4) a + S1x16.size a ≤ S50x128.size a := fun k0_t1 v23 k0_hw1 k0_t2 k0_t4 => k0_hw1.1.2.2.2.2.2.2.2.2.2.2.2.2.2.2.2.2.1 k0_t2 k0_t4
theorem k0_off18_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off18 v23 k0_t2 k0_t4) a + S1x16.size a ≤ S50x128.size a := fun k0_t1 v23 k0_hw1 k0_t2 k0_t4 => k0_hw1.1.2.2.2.2.2.2.2.2.2.2.2.2.2.2.2.2.2.1 k0_t2 k0_t4
theorem k0_off19_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off19 v23 k0_t2 k0_t4) a + S1x16.size a ≤ S50x128.size a := fun k0_t1 v23 k0_hw1 k0_t2 k0_t4 => k0_hw1.1.2.2.2.2.2.2.2.2.2.2.2.2.2.2.2.2.2.2.1 k0_t2 k0_t4
theorem k0_off20_inb : ∀ (k0_t1 : Fin k0_t1_loop.trips) (v23 : BitVec 32) (k0_hw1 : k0_chk1 k0_t1 v23) (k0_t2 : Fin (k0_t2_loop v23).trips) (k0_t4 : Fin (k0_t4_loop v23 k0_t2).trips), ∀ a, (k0_off20 v23 k0_t2 k0_t4) a + S1x16.size a ≤ S50x128.size a := fun k0_t1 v23 k0_hw1 k0_t2 k0_t4 => k0_hw1.1.2.2.2.2.2.2.2.2.2.2.2.2.2.2.2.2.2.2.2.1 k0_t2 k0_t4
theorem k0_t5_ok : ∀ (k0_t1 : Fin k0_t1_loop.trips) (v23 : BitVec 32) (k0_hw1 : k0_chk1 k0_t1 v23), (k0_t5_loop v23).OK := fun k0_t1 v23 k0_hw1 => k0_hw1.1.2.2.2.2.2.2.2.2.2.2.2.2.2.2.2.2.2.2.2.2.1
theorem k0_off21_inb : ∀ (k0_t1 : Fin k0_t1_loop.trips) (v23 : BitVec 32) (k0_hw1 : k0_chk1 k0_t1 v23) (k0_t5 : Fin (k0_t5_loop v23).trips), ∀ a, (k0_off21 k0_t1 v23 k0_t5) a + S1x50.size a ≤ S512x50.size a := fun k0_t1 v23 k0_hw1 k0_t5 => k0_hw1.1.2.2.2.2.2.2.2.2.2.2.2.2.2.2.2.2.2.2.2.2.2.1 k0_t5
theorem k0_t6_ok : ∀ (k0_t1 : Fin k0_t1_loop.trips) (v23 : BitVec 32) (k0_hw1 : k0_chk1 k0_t1 v23) (k0_t5 : Fin (k0_t5_loop v23).trips), (k0_t6_loop v23 k0_t5).OK := fun k0_t1 v23 k0_hw1 k0_t5 => k0_hw1.1.2.2.2.2.2.2.2.2.2.2.2.2.2.2.2.2.2.2.2.2.2.2.1 k0_t5
theorem k0_off22_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off22 v23 k0_t5 k0_t6) a + S1x16.size a ≤ S50x128.size a := fun k0_t1 v23 k0_hw1 k0_t5 k0_t6 => k0_hw1.1.2.2.2.2.2.2.2.2.2.2.2.2.2.2.2.2.2.2.2.2.2.2.2.1 k0_t5 k0_t6
theorem k0_off23_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off23 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.1 k0_t5 k0_t6
theorem k0_off24_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off24 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.1 k0_t5 k0_t6
theorem k0_off25_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off25 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.2.1 k0_t5 k0_t6
theorem k0_off26_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off26 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.2.2.1 k0_t5 k0_t6
theorem k0_off27_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off27 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.2.2.2.1 k0_t5 k0_t6
theorem k0_off28_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off28 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.2.2.2.2.1 k0_t5 k0_t6
theorem k0_off29_inb : ∀ (k0_t1 : Fin k0_t1_loop.trips) (v23 : BitVec 32) (k0_hw1 : k0_chk1 k0_t1 v23) (k0_t5 : Fin (k0_t5_loop v23).trips) (k0_t6 : Fin (k0_t6_loop v23 k0_t5).trips), ∀ a, (k0_off29 v23 k0_t5 k0_t6) a + S1x16.size a ≤ S50x128.size a := fun k0_t1 v23 k0_hw1 k0_t5 k0_t6 => k0_hw1.1.2.2.2.2.2.2.2.2.2.2.2.2.2.2.2.2.2.2.2.2.2.2.2.2.2.2.2.2.2.2.1 k0_t5 k0_t6
theorem k0_t7_ok : ∀ (k0_t1 : Fin k0_t1_loop.trips) (v23 : BitVec 32) (k0_hw1 : k0_chk1 k0_t1 v23) (k0_t5 : Fin (k0_t5_loop v23).trips), (k0_t7_loop v23 k0_t5).OK := fun k0_t1 v23 k0_hw1 k0_t5 => k0_hw1.1.2.2.2.2.2.2.2.2.2.2.2.2.2.2.2.2.2.2.2.2.2.2.2.2.2.2.2.2.2.2.2 k0_t5
theorem k0_off30_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off30 v23 k0_t5 k0_t7) a + S1x16.size a ≤ S50x128.size a := fun k0_t1 v23 k0_hw1 k0_t5 k0_t7 => k0_hw1.2.1 k0_t5 k0_t7
theorem k0_off31_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off31 v23 k0_t5 k0_t7) a + S1x16.size a ≤ S50x128.size a := fun k0_t1 v23 k0_hw1 k0_t5 k0_t7 => k0_hw1.2.2.1 k0_t5 k0_t7
theorem k0_off32_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off32 v23 k0_t5 k0_t7) a + S1x16.size a ≤ S50x128.size a := fun k0_t1 v23 k0_hw1 k0_t5 k0_t7 => k0_hw1.2.2.2.1 k0_t5 k0_t7
theorem k0_off33_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off33 v23 k0_t5 k0_t7) a + S1x16.size a ≤ S50x128.size a := fun k0_t1 v23 k0_hw1 k0_t5 k0_t7 => k0_hw1.2.2.2.2.1 k0_t5 k0_t7
theorem k0_off34_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off34 v23 k0_t5 k0_t7) a + S1x16.size a ≤ S50x128.size a := fun k0_t1 v23 k0_hw1 k0_t5 k0_t7 => k0_hw1.2.2.2.2.2.1 k0_t5 k0_t7
theorem k0_off35_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off35 v23 k0_t5 k0_t7) a + S1x16.size a ≤ S50x128.size a := fun k0_t1 v23 k0_hw1 k0_t5 k0_t7 => k0_hw1.2.2.2.2.2.2.1 k0_t5 k0_t7
theorem k0_off36_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off36 v23 k0_t5 k0_t7) a + S1x16.size a ≤ S50x128.size a := fun k0_t1 v23 k0_hw1 k0_t5 k0_t7 => k0_hw1.2.2.2.2.2.2.2.1 k0_t5 k0_t7
theorem k0_off37_inb : ∀ (k0_t1 : Fin k0_t1_loop.trips) (v23 : BitVec 32) (k0_hw1 : k0_chk1 k0_t1 v23) (k0_t5 : Fin (k0_t5_loop v23).trips) (k0_t7 : Fin (k0_t7_loop v23 k0_t5).trips), ∀ a, (k0_off37 v23 k0_t5 k0_t7) a + S1x16.size a ≤ S50x128.size a := fun k0_t1 v23 k0_hw1 k0_t5 k0_t7 => k0_hw1.2.2.2.2.2.2.2.2 k0_t5 k0_t7

def k0_off38 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v79 : Index := Scalar.indexCast arg12
  let c0_30 : Index := 0#32
  ![v79.toNat, 0]
def k0_off39 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v82 : Index := Scalar.indexCast arg12
  let c128 : Index := 128#32
  ![v82.toNat, 128]
def k0_off40 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v84 : Index := Scalar.indexCast arg12
  let c16_31 : Index := 16#32
  ![v84.toNat, 16]
def k0_off41 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v87 : Index := Scalar.indexCast arg12
  let c144 : Index := 144#32
  ![v87.toNat, 144]
def k0_off42 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v89 : Index := Scalar.indexCast arg12
  let c32_32 : Index := 32#32
  ![v89.toNat, 32]
def k0_off43 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v92 : Index := Scalar.indexCast arg12
  let c160 : Index := 160#32
  ![v92.toNat, 160]
def k0_off44 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v94 : Index := Scalar.indexCast arg12
  let c48_33 : Index := 48#32
  ![v94.toNat, 48]
def k0_off45 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v97 : Index := Scalar.indexCast arg12
  let c176 : Index := 176#32
  ![v97.toNat, 176]
def k0_off46 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v99 : Index := Scalar.indexCast arg12
  let c64_34 : Index := 64#32
  ![v99.toNat, 64]
def k0_off47 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v102 : Index := Scalar.indexCast arg12
  let c192 : Index := 192#32
  ![v102.toNat, 192]
def k0_off48 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v104 : Index := Scalar.indexCast arg12
  let c80_35 : Index := 80#32
  ![v104.toNat, 80]
def k0_off49 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v107 : Index := Scalar.indexCast arg12
  let c208 : Index := 208#32
  ![v107.toNat, 208]
def k0_off50 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v109 : Index := Scalar.indexCast arg12
  let c96_36 : Index := 96#32
  ![v109.toNat, 96]
def k0_off51 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v112 : Index := Scalar.indexCast arg12
  let c224 : Index := 224#32
  ![v112.toNat, 224]
def k0_off52 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v114 : Index := Scalar.indexCast arg12
  let c112_37 : Index := 112#32
  ![v114.toNat, 112]
def k0_off53 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let v117 : Index := Scalar.indexCast arg12
  let c240 : Index := 240#32
  ![v117.toNat, 240]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_4_r3 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200 : Shape := ⟨2, ![4096, 200]⟩
abbrev S4096 : Shape := ⟨1, ![4096]⟩
abbrev S100002x128 : Shape := ⟨2, ![100002, 128]⟩
abbrev S200 : Shape := ⟨1, ![200]⟩
abbrev S1x200 : Shape := ⟨2, ![1, 200]⟩
abbrev S_ : Shape := ⟨0, ![]⟩
abbrev S4096x1 : Shape := ⟨2, ![4096, 1]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S1x128 : Shape := ⟨2, ![1, 128]⟩
abbrev S128 : Shape := ⟨1, ![128]⟩
abbrev S4096x128 : Shape := ⟨2, ![4096, 128]⟩
abbrev S524288 : Shape := ⟨1, ![524288]⟩
abbrev S4096x256 : Shape := ⟨2, ![4096, 256]⟩

abbrev nBuf : Space → Nat
  | .hbm => 59
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S4096, .i32⟩
  | .hbm, ⟨2, _⟩ => ⟨S100002x128, .f32⟩
  | .hbm, ⟨3, _⟩ => ⟨S200, .i32⟩
  | .hbm, ⟨4, _⟩ => ⟨S1x200, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096x1, .i32⟩
  | .hbm, ⟨9, _⟩ => ⟨S4096x200, .i32⟩
  | .hbm, ⟨10, _⟩ => ⟨S4096x200, .i32⟩
  | .hbm, ⟨11, _⟩ => ⟨S4096x200, .i1⟩
  | .hbm, ⟨12, _⟩ => ⟨S_, .i32⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S_, .i32⟩
  | .hbm, ⟨17, _⟩ => ⟨S4096x200, .i32⟩
  | .hbm, ⟨18, _⟩ => ⟨S4096x200, .i1⟩
  | .hbm, ⟨19, _⟩ => ⟨S_, .i32⟩
  | .hbm, ⟨20, _⟩ => ⟨S4096x200, .i32⟩
  | .hbm, ⟨21, _⟩ => ⟨S4096x200, .i32⟩
  | .hbm, ⟨22, _⟩ => ⟨S4096x200, .i32⟩
  | .hbm, ⟨23, _⟩ => ⟨S4096x200x1, .i32⟩
  | .hbm, ⟨24, _⟩ => ⟨S1, .i32⟩
  | .hbm, ⟨25, _⟩ => ⟨S_, .i32⟩
  | .hbm, ⟨26, _⟩ => ⟨S4096x200x1, .i32⟩
  | .hbm, ⟨27, _⟩ => ⟨S4096x200x1, .i1⟩
  | .hbm, ⟨28, _⟩ => ⟨S1x1x1, .i32⟩
  | .hbm, ⟨29, _⟩ => ⟨S4096x200x1, .i32⟩
  | .hbm, ⟨30, _⟩ => ⟨S4096x200x1, .i1⟩
  | .hbm, ⟨31, _⟩ => ⟨S4096x200x1, .i1⟩
  | .hbm, ⟨32, _⟩ => ⟨S_, .i1⟩
  | .hbm, ⟨33, _⟩ => ⟨S4096x200, .i1⟩
  | .hbm, ⟨34, _⟩ => ⟨S4096x200x128, .f32⟩
  | .hbm, ⟨35, _⟩ => ⟨S4096x200x128, .i1⟩
  | .hbm, ⟨36, _⟩ => ⟨S_, .f32⟩
  | .hbm, ⟨37, _⟩ => ⟨S4096x200x128, .f32⟩
  | .hbm, ⟨38, _⟩ => ⟨S4096x200x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S4096x128, .f32⟩
  | .hbm, ⟨43, _⟩ => ⟨S524288, .f32⟩
  | .hbm, ⟨44, _⟩ => ⟨S4096x128, .f32⟩
  | .hbm, ⟨45, _⟩ => ⟨S4096, .f32⟩
  | .hbm, ⟨46, _⟩ => ⟨S4096x1, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S4096, .f32⟩
  | .hbm, ⟨53, _⟩ => ⟨S4096x1, .f32⟩
  | .hbm, ⟨54, _⟩ => ⟨S4096x128, .f32⟩
  | .hbm, ⟨55, _⟩ => ⟨S4096x128, .f32⟩
  | .hbm, ⟨56, _⟩ => ⟨S_, .f32⟩
  | .hbm, ⟨57, _⟩ => ⟨S4096x128, .f32⟩
  | .hbm, ⟨58, _⟩ => ⟨S4096x256, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]
-- ==== Proof.Words.lean ====
module

public import Idealize.ShloMosaic.Lib.Tactic
public import proofs.«01_k».proof.Proof.Gen.KernelIdeal
public import proofs.«01_k».proof.Proof.Gen.KernelIdeal.Skeleton

@[expose] public section

/-!
  The words one sequence's trip computes, in closed form: how many chunks of fifty rows it gathers, how many rows of a
  chunk it accumulates, where it reads them, and that every check the kernel states about a sequence's pad count `n`
  holds once `n < 200`. The two remainder loops make no trip.
-/

namespace Cert.KernelIdeal.Pool

open Cert.KernelIdeal Cert.KernelIdeal.Gen
open Idealize.ShloMosaic

/-- The induction variable of a loop from zero by one is the trip's number. -/
theorem iv_toNat (k : ℕ) (hk : k < 2 ^ 32) : (Scf.iv 0#32 1#32 k).toNat = k := by
  unfold Scf.iv
  simp [Nat.mod_eq_of_lt hk, BitVec.toNat_ofNat]
  omega

theorem t1_trips : k0_t1_loop.trips = 128 := by decide +kernel

section Counts

theorem t2_fin : ∀ n : Fin 200, (k0_t2_loop (BitVec.ofNat 32 n.val)).OK ∧ (k0_t2_loop (BitVec.ofNat 32 n.val)).trips = (249 - n.val) / 50
    ∧ (k0_t5_loop (BitVec.ofNat 32 n.val)).OK ∧ (k0_t5_loop (BitVec.ofNat 32 n.val)).trips = 0 := by decide +kernel

theorem t3_fin : ∀ (n : Fin 200) (c : Fin (k0_t2_loop (BitVec.ofNat 32 n.val)).trips),
    (k0_t3_loop (BitVec.ofNat 32 n.val) c).OK ∧ (k0_t3_loop (BitVec.ofNat 32 n.val) c).trips = min (200 - n.val - 50 * c.val) 50
    ∧ (k0_t4_loop (BitVec.ofNat 32 n.val) c).OK ∧ (k0_t4_loop (BitVec.ofNat 32 n.val) c).trips = 0 := by decide +kernel

end Counts

variable {v : BitVec 32} (hv : v.toNat < 200)

theorem eq_ofNat {v : BitVec 32} : v = BitVec.ofNat 32 v.toNat := by simp

include hv

theorem t2_ok : (k0_t2_loop v).OK := by
  have h := (t2_fin ⟨v.toNat, hv⟩).1; simpa only [← eq_ofNat] using h
theorem t2_trips : (k0_t2_loop v).trips = (249 - v.toNat) / 50 := by
  have h := (t2_fin ⟨v.toNat, hv⟩).2.1; simpa only [← eq_ofNat] using h
theorem t5_ok : (k0_t5_loop v).OK := by
  have h := (t2_fin ⟨v.toNat, hv⟩).2.2.1; simpa only [← eq_ofNat] using h
theorem t5_trips : (k0_t5_loop v).trips = 0 := by
  have h := (t2_fin ⟨v.toNat, hv⟩).2.2.2; simpa only [← eq_ofNat] using h

theorem t3_all (c : Fin (k0_t2_loop v).trips) :
    (k0_t3_loop v c).OK ∧ (k0_t3_loop v c).trips = min (200 - v.toNat - 50 * c.val) 50
    ∧ (k0_t4_loop v c).OK ∧ (k0_t4_loop v c).trips = 0 := by
  obtain ⟨n, rfl⟩ : ∃ n : Fin 200, v = BitVec.ofNat 32 n.val := ⟨⟨v.toNat, hv⟩, eq_ofNat⟩
  have e : (BitVec.ofNat 32 n.val).toNat = n.val := by
    have := n.isLt; simp only [BitVec.toNat_ofNat]; omega
  rw [e]; exact t3_fin n c

theorem t2_le (c : Fin (k0_t2_loop v).trips) : c.val < 4 ∧ 50 * c.val < 200 - v.toNat := by
  have h := c.isLt; have e := t2_trips hv; omega
theorem t3_le (c : Fin (k0_t2_loop v).trips) (j : Fin (k0_t3_loop v c).trips) : j.val < 50 := by
  have h := j.isLt; have e := (t3_all hv c).2.1; omega

omit hv in
theorem off4_eq (hv : v.toNat < 200) (r : Fin k0_t1_loop.trips) (c : Fin (k0_t2_loop v).trips) : k0_off4 r v c = ![4 * r.val + c.val, 0] := by
  have hr : r.val < 128 := lt_of_lt_of_eq r.isLt t1_trips
  have hc := (t2_le hv c).1
  have h1 : (Scf.iv 0#32 1#32 r.val).toNat = r.val := iv_toNat _ (by omega)
  have h2 : (Scf.iv 0#32 1#32 c.val).toNat = c.val := iv_toNat _ (by omega)
  have h : ∀ x y : BitVec 32, x.toNat < 128 → y.toNat < 4 → (x * 4#32 + y).toNat = 4 * x.toNat + y.toNat := by
    intro x y hx hy
    simp only [BitVec.toNat_add, BitVec.toNat_mul, BitVec.toNat_ofNat]
    omega
  have e := h (Scf.iv 0#32 1#32 r.val) (Scf.iv 0#32 1#32 c.val) (by omega) (by omega)
  rw [h1, h2] at e
  exact congrArg (fun m : ℕ => (![m, 0] : Fin 2 → ℕ)) e

omit hv

/-- A row the accumulating loop reads is a row of the gathered chunk. -/
theorem row_inb {off : Fin 2 → ℕ} {j : ℕ} (hj : j < 50) {k : ℕ} (e : off = ![j, k]) (hk : k + 16 ≤ 128) :
    ∀ a, off a + S1x16.size a ≤ S50x128.size a := by
  subst e
  intro a
  match a with
  | 0 => exact (show j + 1 ≤ 50 by omega)
  | 1 => exact hk

theorem off5_eq (hv : v.toNat < 200) (c : Fin (k0_t2_loop v).trips) (j : Fin (k0_t3_loop v c).trips) :
    k0_off5 v c j = ![j.val, 0] := by
  have hj : j.val < 2 ^ 32 := by have := t3_le hv c j; omega
  exact congrArg (fun m : ℕ => (![m, 0] : Fin 2 → ℕ)) (iv_toNat j.val hj)

theorem off6_eq (hv : v.toNat < 200) (c : Fin (k0_t2_loop v).trips) (j : Fin (k0_t3_loop v c).trips) :
    k0_off6 v c j = ![j.val, 16] := by
  have hj : j.val < 2 ^ 32 := by have := t3_le hv c j; omega
  exact congrArg (fun m : ℕ => (![m, 16] : Fin 2 → ℕ)) (iv_toNat j.val hj)

theorem off7_eq (hv : v.toNat < 200) (c : Fin (k0_t2_loop v).trips) (j : Fin (k0_t3_loop v c).trips) :
    k0_off7 v c j = ![j.val, 32] := by
  have hj : j.val < 2 ^ 32 := by have := t3_le hv c j; omega
  exact congrArg (fun m : ℕ => (![m, 32] : Fin 2 → ℕ)) (iv_toNat j.val hj)

theorem off8_eq (hv : v.toNat < 200) (c : Fin (k0_t2_loop v).trips) (j : Fin (k0_t3_loop v c).trips) :
    k0_off8 v c j = ![j.val, 48] := by
  have hj : j.val < 2 ^ 32 := by have := t3_le hv c j; omega
  exact congrArg (fun m : ℕ => (![m, 48] : Fin 2 → ℕ)) (iv_toNat j.val hj)

theorem off9_eq (hv : v.toNat < 200) (c : Fin (k0_t2_loop v).trips) (j : Fin (k0_t3_loop v c).trips) :
    k0_off9 v c j = ![j.val, 64] := by
  have hj : j.val < 2 ^ 32 := by have := t3_le hv c j; omega
  exact congrArg (fun m : ℕ => (![m, 64] : Fin 2 → ℕ)) (iv_toNat j.val hj)

theorem off10_eq (hv : v.toNat < 200) (c : Fin (k0_t2_loop v).trips) (j : Fin (k0_t3_loop v c).trips) :
    k0_off10 v c j = ![j.val, 80] := by
  have hj : j.val < 2 ^ 32 := by have := t3_le hv c j; omega
  exact congrArg (fun m : ℕ => (![m, 80] : Fin 2 → ℕ)) (iv_toNat j.val hj)

theorem off11_eq (hv : v.toNat < 200) (c : Fin (k0_t2_loop v).trips) (j : Fin (k0_t3_loop v c).trips) :
    k0_off11 v c j = ![j.val, 96] := by
  have hj : j.val < 2 ^ 32 := by have := t3_le hv c j; omega
  exact congrArg (fun m : ℕ => (![m, 96] : Fin 2 → ℕ)) (iv_toNat j.val hj)

theorem off12_eq (hv : v.toNat < 200) (c : Fin (k0_t2_loop v).trips) (j : Fin (k0_t3_loop v c).trips) :
    k0_off12 v c j = ![j.val, 112] := by
  have hj : j.val < 2 ^ 32 := by have := t3_le hv c j; omega
  exact congrArg (fun m : ℕ => (![m, 112] : Fin 2 → ℕ)) (iv_toNat j.val hj)

theorem off4_inb (hv : v.toNat < 200) (r : Fin k0_t1_loop.trips) (c : Fin (k0_t2_loop v).trips) :
    ∀ a, k0_off4 r v c a + S1x50.size a ≤ S512x50.size a := by
  have hr : r.val < 128 := lt_of_lt_of_eq r.isLt t1_trips
  have hc := (t2_le hv c).1
  rw [off4_eq hv]
  intro a
  match a with
  | 0 => exact (show 4 * r.val + c.val + 1 ≤ 512 by omega)
  | 1 => exact (show 0 + 50 ≤ 50 by omega)

/-- A statement about the trips of a loop that makes none. -/
theorem none {n : ℕ} {C : Fin n → Prop} (h : n = 0) : ∀ k, C k := fun k => absurd k.isLt (by omega)

/-- Every check stated about a pad count below two hundred holds. -/
theorem chk1 (hv : v.toNat < 200) (r : Fin k0_t1_loop.trips) : k0_chk1 r v := by
  unfold k0_chk1 k0_chk1_0 k0_chk1_1
  exact ⟨⟨t2_ok hv, off4_inb hv r, fun c => (t3_all hv c).1, fun c j => row_inb (t3_le hv c j) (off5_eq hv c j) (by decide), fun c j => row_inb (t3_le hv c j) (off6_eq hv c j) (by decide), fun c j => row_inb (t3_le hv c j) (off7_eq hv c j) (by decide), fun c j => row_inb (t3_le hv c j) (off8_eq hv c j) (by decide), fun c j => row_inb (t3_le hv c j) (off9_eq hv c j) (by decide), fun c j => row_inb (t3_le hv c j) (off10_eq hv c j) (by decide), fun c j => row_inb (t3_le hv c j) (off11_eq hv c j) (by decide), fun c j => row_inb (t3_le hv c j) (off12_eq hv c j) (by decide),
    fun c => (t3_all hv c).2.2.1, fun c => none (t3_all hv c).2.2.2, fun c => none (t3_all hv c).2.2.2, fun c => none (t3_all hv c).2.2.2, fun c => none (t3_all hv c).2.2.2, fun c => none (t3_all hv c).2.2.2, fun c => none (t3_all hv c).2.2.2, fun c => none (t3_all hv c).2.2.2, fun c => none (t3_all hv c).2.2.2, t5_ok hv, none (t5_trips hv), none (t5_trips hv), none (t5_trips hv), none (t5_trips hv), none (t5_trips hv), none (t5_trips hv), none (t5_trips hv), none (t5_trips hv), none (t5_trips hv), none (t5_trips hv), none (t5_trips hv)⟩,
    none (t5_trips hv), none (t5_trips hv), none (t5_trips hv), none (t5_trips hv), none (t5_trips hv), none (t5_trips hv), none (t5_trips hv), none (t5_trips hv)⟩

end Cert.KernelIdeal.Pool
-- ==== Proof.Model.lean ====
module

public import Idealize.ShloMosaic.Lib.Tactic

@[expose] public section

/-!
  What one sequence's lane accumulates, as plain recursions over its valid rows: the sum from zero, the maximum from a
  starting value; the sixteen vectors of sixteen lanes they are held in; and the array of results they amount to.
-/

noncomputable section

namespace Cert.Pool

open Idealize.ShloMosaic

variable {F : FTy → Type}

/-- A one-axis array read at a number. -/
def at1 {α : Type} {n : ℕ} [NeZero n] (f : (⟨1, ![n]⟩ : Shape).Idx → α) (i : ℕ) : α :=
  f fun | 0 => Fin.ofNat n i
/-- A two-axis array read at two numbers. -/
def at2 {α : Type} {m n : ℕ} [NeZero m] [NeZero n] (f : (⟨2, ![m, n]⟩ : Shape).Idx → α) (i j : ℕ) : α :=
  f fun | 0 => Fin.ofNat m i | 1 => Fin.ofNat n j

theorem at1_eq {α : Type} {n : ℕ} [NeZero n] (f : (⟨1, ![n]⟩ : Shape).Idx → α) (y : (⟨1, ![n]⟩ : Shape).Idx) {i : ℕ}
    (h : (y 0).val = i) : f y = at1 f i := by
  subst h
  refine congrArg f (funext fun a => ?_)
  match a with
  | 0 => exact Fin.ext (Nat.mod_eq_of_lt (y 0).isLt).symm
theorem at2_eq {α : Type} {m n : ℕ} [NeZero m] [NeZero n] (f : (⟨2, ![m, n]⟩ : Shape).Idx → α) (y : (⟨2, ![m, n]⟩ : Shape).Idx) {i j : ℕ}
    (h₀ : (y 0).val = i) (h₁ : (y 1).val = j) : f y = at2 f i j := by
  subst h₀ h₁
  refine congrArg f (funext fun a => ?_)
  match a with
  | 0 => exact Fin.ext (Nat.mod_eq_of_lt (y 0).isLt).symm
  | 1 => exact Fin.ext (Nat.mod_eq_of_lt (y 1).isLt).symm

/-- Sixteen lanes. -/
abbrev L16 : Shape := ⟨1, ![16]⟩
/-- The sixteen lanes of a row from lane `16 v` on. -/
def lanes (f : ℕ → F .f32) (v : ℕ) : L16.Idx → F .f32 := fun l => f (16 * v + (l 0).val)

variable [FloatOps F]

/-- The sum of the first `t` rows at a lane, in order, from zero. -/
def sumA (rows : ℕ → ℕ → F .f32) (x : ℕ) : ℕ → F .f32
  | 0 => Scalar.ofBits .f32 0x00000000#32
  | t + 1 => FloatOps.addf (sumA rows x t) (rows t x)

/-- The maximum of a starting value and the first `t` rows at a lane, in order. -/
def maxA (init : ℕ → F .f32) (rows : ℕ → ℕ → F .f32) (x : ℕ) : ℕ → F .f32
  | 0 => init x
  | t + 1 => FloatOps.maximumf (maxA init rows x t) (rows t x)

/-- The accumulators: eight vectors of sums, eight of maxima. -/
abbrev Acc (F : FTy → Type) : Type :=
  (L16.Idx → F .f32) × (L16.Idx → F .f32) × (L16.Idx → F .f32) × (L16.Idx → F .f32) × (L16.Idx → F .f32) × (L16.Idx → F .f32)
    × (L16.Idx → F .f32) × (L16.Idx → F .f32) × (L16.Idx → F .f32) × (L16.Idx → F .f32) × (L16.Idx → F .f32) × (L16.Idx → F .f32)
    × (L16.Idx → F .f32) × (L16.Idx → F .f32) × (L16.Idx → F .f32) × (L16.Idx → F .f32)

/-- The sums' vector `v` after `t` rows. -/
def accS (rows : ℕ → ℕ → F .f32) (t v : ℕ) : L16.Idx → F .f32 := lanes (fun x => sumA rows x t) v
/-- The maxima's vector `v` after `t` rows. -/
def accM (init : ℕ → F .f32) (rows : ℕ → ℕ → F .f32) (t v : ℕ) : L16.Idx → F .f32 := lanes (fun x => maxA init rows x t) v

/-- The accumulators after `t` rows. -/
def accAt (init : ℕ → F .f32) (rows : ℕ → ℕ → F .f32) (t : ℕ) : Acc F :=
  (accS rows t 0, accS rows t 1, accS rows t 2, accS rows t 3, accS rows t 4, accS rows t 5, accS rows t 6, accS rows t 7,
    accM init rows t 0, accM init rows t 1, accM init rows t 2, accM init rows t 3, accM init rows t 4, accM init rows t 5,
    accM init rows t 6, accM init rows t 7)

/-- Adding a row's sixteen lanes to a vector of sums. -/
theorem addf_accS (rows : ℕ → ℕ → F .f32) (t v : ℕ) (w : L16.Idx → F .f32) (hw : w = lanes (rows t) v) :
    addf (φ := .f32) (accS rows t v) w = accS rows (t + 1) v := by
  subst hw; rfl
/-- Taking a row's sixteen lanes into a vector of maxima. -/
theorem maximumf_accM (init : ℕ → F .f32) (rows : ℕ → ℕ → F .f32) (t v : ℕ) (w : L16.Idx → F .f32) (hw : w = lanes (rows t) v) :
    maximumf (φ := .f32) (accM init rows t v) w = accM init rows (t + 1) v := by
  subst hw; rfl

/-- The table's word at a row and a lane. -/
abbrev tabAt (ft : (⟨2, ![100002, 128]⟩ : Shape).Idx → F .f32) (r x : ℕ) : F .f32 := at2 ft r x
/-- The list's word: row `k` of fifty, position `t`. -/
def idsAt (fi : (⟨2, ![16384, 50]⟩ : Shape).Idx → BitVec 32) (k t : ℕ) : ℕ := (at2 fi k t).toNat
/-- A sequence's pad count. -/
abbrev padAt (fp : (⟨1, ![4096]⟩ : Shape).Idx → BitVec 32) (b : ℕ) : BitVec 32 := at1 fp b
/-- A sequence's rows: row `t` is the table's at the list's word `t % 50` of the sequence's chunk `t / 50`. -/
def rowsOf (fi : (⟨2, ![16384, 50]⟩ : Shape).Idx → BitVec 32) (ft : (⟨2, ![100002, 128]⟩ : Shape).Idx → F .f32) (b : ℕ) (t x : ℕ) : F .f32 :=
  tabAt ft (idsAt fi (4 * b + t / 50) (t % 50)) x
/-- Where a sequence's maxima start: the padding row if it has a padding position, else minus infinity. -/
def initOf (ft : (⟨2, ![100002, 128]⟩ : Shape).Idx → F .f32) (p : BitVec 32) (x : ℕ) : F .f32 :=
  Scalar.select (Scalar.cmpi .sgt p 0#32) (tabAt ft 100001 x) (Scalar.ofBits .f32 0xFF800000#32)
/-- The number the sums are multiplied by: one over the count of valid positions. -/
def scaleOf (p : BitVec 32) : F .f32 :=
  FloatOps.divf (Scalar.ofBits .f32 0x3F800000#32)
    (FloatOps.mulf (Scalar.ofBits .f32 0x3F800000#32) (Scalar.sitofp .f32 (Scalar.subi 200#32 p)))
/-- The result at sequence `b`, column `x`. -/
def outAt (fi : (⟨2, ![16384, 50]⟩ : Shape).Idx → BitVec 32) (fp : (⟨1, ![4096]⟩ : Shape).Idx → BitVec 32)
    (ft : (⟨2, ![100002, 128]⟩ : Shape).Idx → F .f32) (b x : ℕ) : F .f32 :=
  if x < 128 then maxA (initOf ft (padAt fp b)) (rowsOf fi ft b) x (200 - (padAt fp b).toNat)
  else FloatOps.mulf (sumA (rowsOf fi ft b) (x - 128) (200 - (padAt fp b).toNat)) (scaleOf (padAt fp b))
/-- The array of results. -/
def outArr (fi : (⟨2, ![16384, 50]⟩ : Shape).Idx → BitVec 32) (fp : (⟨1, ![4096]⟩ : Shape).Idx → BitVec 32)
    (ft : (⟨2, ![100002, 128]⟩ : Shape).Idx → F .f32) : (⟨2, ![4096, 256]⟩ : Shape).Idx → F .f32 :=
  fun i => outAt fi fp ft (i 0).val (i 1).val

end Cert.Pool

end
-- ==== Proof.Setup.lean ====
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Pipeline.Value
public import Idealize.ShloMosaic.Lib.ValueLayout
public import proofs.«01_k».proof.Proof.Gen.KernelIdeal
public import proofs.«01_k».proof.Proof.Gen.KernelIdeal.Skeleton
public import proofs.«01_k».proof.Proof.Words
public import proofs.«01_k».proof.Proof.Model

@[expose] public section

/-!
  The program as the launch theorem sees it: its labels, its configuration, the resource algebra the handshakes and the
  transfers use, and the buffers a tile addresses.
-/

noncomputable section

namespace Cert.KernelIdeal.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl .none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

end Cert.KernelIdeal.Pool

end
-- ==== Proof.Loop3.lean ====
module

public import proofs.«01_k».proof.Proof.Setup

@[expose] public section

/-! The loop over a gathered chunk's rows: each trip adds one row to the sums and takes it into the maxima. -/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (d : Dev nD) (L : grid0.Coords)

omit [FloatOps F] in
/-- Sixteen lanes of the gathered chunk's row `j`, as they are loaded and reshaped. -/
theorem row_lanes (g : Buf (Elt F) ((thr d L).loc cc0_scratch3)) (rw : ℕ → F .f32) {off : Fin 2 → ℕ} (inb : ∀ a, off a + S1x16.size a ≤ S50x128.size a) {j v : ℕ} (e : off = ![j, 16 * v])
    (hg : ∀ x < 128, at2 (m := 50) (n := 128) g j x = rw x) :
    shapeCast S16 (View.readAt (Elt F) (sB).view (Rect.unit (s := S50x128) off S1x16.size inb).toLoadRect g) shapeCasts_S1x16_S16 = lanes rw v := by
  subst e
  have hv : 16 * v + 16 ≤ 128 := inb 1
  funext l
  have hl : (l 0).val < 16 := (l 0).isLt
  refine (shapeCast_apply _ _ l (ValueIdx.ix2 (0 : Fin 1) (l 0)) ?_).trans ?_
  · rw [Shape.rowMajor_val_two, Shape.rowMajor_val_one]
    show 0 * 16 + (l 0).val = (l 0).val
    omega
  · refine (at2_eq (m := 50) (n := 128) g _ (i := j) (j := 16 * v + (l 0).val) ?_ ?_).trans (hg _ (by omega))
    · show j + 1 * 0 = j
      omega
    · show 16 * v + 1 * (l 0).val = 16 * v + (l 0).val
      omega

theorem t3_step (g : Buf (Elt F) ((thr d L).loc cc0_scratch3)) (v4 v5 : FVec F S16 .f32) (r : Fin k0_t1_loop.trips) (a12 v23 v24 v33 : BitVec 32) (hw : k0_chk1 r v23)
    (v35 v37 v39 v41 : Vec F S16 .f32) (c0 : BitVec 32) (c : Fin (k0_t2_loop v23).trips) (j : Fin (k0_t3_loop v23 c).trips)
    (init : ℕ → F .f32) (rows : ℕ → ℕ → F .f32) (hv : v23.toNat < 200)
    (hg : ∀ k < 50, ∀ x < 128, at2 (m := 50) (n := 128) g k x = rows (50 * c.val + k) x) :
    ((sB).view.loc (thr d L) ↦{fullShare} g : sProp 𝕄)
      ⊢ wp frame (wpE (defs₀ (F := F)) 𝒱₀ (thr d L) .none) Set.univ
          (k0_t3_body L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3 v4 v5 r a12 v23 hw v24 v33 v35 v37 v39 v41 c0 c j
            (accAt init rows (50 * c.val + j.val)))
          fun acc => iprop(((sB).view.loc (thr d L) ↦{fullShare} g) ∗ ⌜acc = accAt init rows (50 * c.val + j.val + 1)⌝) := by
  unfold k0_t3_body accAt
  iintro Hb
  sl_exec
  sl_step
  isplitl [Hb]; · iexact Hb
  ipureintro
  have hr := hg j.val (t3_le hv c j)
  refine Prod.ext_iff.mpr ⟨addf_accS rows _ 0 _ (row_lanes d L g _ _ (off5_eq hv c j) hr), ?_⟩
  refine Prod.ext_iff.mpr ⟨addf_accS rows _ 1 _ (row_lanes d L g _ _ (off6_eq hv c j) hr), ?_⟩
  refine Prod.ext_iff.mpr ⟨addf_accS rows _ 2 _ (row_lanes d L g _ _ (off7_eq hv c j) hr), ?_⟩
  refine Prod.ext_iff.mpr ⟨addf_accS rows _ 3 _ (row_lanes d L g _ _ (off8_eq hv c j) hr), ?_⟩
  refine Prod.ext_iff.mpr ⟨addf_accS rows _ 4 _ (row_lanes d L g _ _ (off9_eq hv c j) hr), ?_⟩
  refine Prod.ext_iff.mpr ⟨addf_accS rows _ 5 _ (row_lanes d L g _ _ (off10_eq hv c j) hr), ?_⟩
  refine Prod.ext_iff.mpr ⟨addf_accS rows _ 6 _ (row_lanes d L g _ _ (off11_eq hv c j) hr), ?_⟩
  refine Prod.ext_iff.mpr ⟨addf_accS rows _ 7 _ (row_lanes d L g _ _ (off12_eq hv c j) hr), ?_⟩
  refine Prod.ext_iff.mpr ⟨maximumf_accM init rows _ 0 _ (row_lanes d L g _ _ (off5_eq hv c j) hr), ?_⟩
  refine Prod.ext_iff.mpr ⟨maximumf_accM init rows _ 1 _ (row_lanes d L g _ _ (off6_eq hv c j) hr), ?_⟩
  refine Prod.ext_iff.mpr ⟨maximumf_accM init rows _ 2 _ (row_lanes d L g _ _ (off7_eq hv c j) hr), ?_⟩
  refine Prod.ext_iff.mpr ⟨maximumf_accM init rows _ 3 _ (row_lanes d L g _ _ (off8_eq hv c j) hr), ?_⟩
  refine Prod.ext_iff.mpr ⟨maximumf_accM init rows _ 4 _ (row_lanes d L g _ _ (off9_eq hv c j) hr), ?_⟩
  refine Prod.ext_iff.mpr ⟨maximumf_accM init rows _ 5 _ (row_lanes d L g _ _ (off10_eq hv c j) hr), ?_⟩
  refine Prod.ext_iff.mpr ⟨maximumf_accM init rows _ 6 _ (row_lanes d L g _ _ (off11_eq hv c j) hr), ?_⟩
  exact maximumf_accM init rows _ 7 _ (row_lanes d L g _ _ (off12_eq hv c j) hr)

end Cert.KernelIdeal.Pool

end
-- ==== Proof.Loop2.lean ====
module

public import proofs.«01_k».proof.Proof.Loop3

@[expose] public section

/-! One chunk: its fifty rows are gathered by the list's words, the gather is waited for, and its valid rows are accumulated. -/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (d : Dev nD) (L : grid0.Coords)

/-- The table as the gather addresses it, and the chunk's list of fifty words. -/
abbrev tAll : Memref sig .scVector .hbm S100002x128 .f32 :=
  (tV).slice (Rect.unit (s := S100002x128) ![0, 0] S100002x128.size inb_S100002x128_S100002x128_0_0) (fun _ => rfl)
abbrev lst (r : Fin k0_t1_loop.trips) (v : BitVec 32) (hw : k0_chk1 r v) (c : Fin (k0_t2_loop v).trips) : Memref sig .scVector .vmem S50 .i32 :=
  ((sI).slice (Rect.unit (s := S512x50) (k0_off4 r v c) S1x50.size (k0_off4_inb r v hw c)) (fun _ => rfl)).squeeze S50 squeezes_S1x50_S50

omit [FloatOps F] in
theorem lst_read (fI : Buf (Elt F) ((thr d L).loc cc0_scratch0)) (r : Fin k0_t1_loop.trips) (v : BitVec 32) (hw : k0_chk1 r v) (hv : v.toNat < 200)
    (c : Fin (k0_t2_loop v).trips) (x : S50.Idx) :
    (lst r v hw c).view.read (Elt F) fI x = at2 (m := 512) (n := 50) fI (4 * r.val + c.val) (x 0).val := by
  refine (View.read_apply _ _).trans ((cast_eq _ _).trans ?_)
  have e : Shape.reshapeEquiv squeezes_S1x50_S50.numel_eq x = ValueIdx.ix2 (0 : Fin 1) (show Fin 50 from x 0) :=
    Shape.reshapeEquiv_eq_of_rowMajor _ (by
      rw [Shape.rowMajor_val_two, Shape.rowMajor_val_one]
      show 0 * 50 + (x 0).val = (x 0).val
      omega)
  have ho := off4_eq hv r c
  refine at2_eq (m := 512) (n := 50) fI _ ?_ ?_
  · show k0_off4 r v c 0 + 1 * (Shape.reshapeEquiv squeezes_S1x50_S50.numel_eq x 0).val = 4 * r.val + c.val
    rw [e, ho]
    show 4 * r.val + c.val + 1 * 0 = _
    omega
  · show k0_off4 r v c 1 + 1 * (Shape.reshapeEquiv squeezes_S1x50_S50.numel_eq x 1).val = (x 0).val
    rw [e, ho]
    show 0 + 1 * (x 0).val = _
    omega

/-- The chunk's buffer after the gather, at row `k` and lane `x`: the table's word at the list's word `k`. -/
theorem gathered (fI : Buf (Elt F) ((thr d L).loc cc0_scratch0)) (ft : Buf (Elt F) ((thr d L).loc main_arg2_scv)) (r : Fin k0_t1_loop.trips) (v : BitVec 32) (hw : k0_chk1 r v) (hv : v.toNat < 200)
    (c : Fin (k0_t2_loop v).trips) (hn : S50.numel = S50x128.size gathers_S100002x128_S50x128.axis')
    (hlst : ∀ x, ((lst r v hw c).view.read (Elt F) fI x).toNat < S100002x128.size gathers_S100002x128_S50x128.axis)
    (k x : ℕ) (hk : k < 50) (hx : x < 128) :
    at2 (m := 50) (n := 128) (SparseCore.gatherPayload gathers_S100002x128_S50x128 ((tAll).view.read (Elt F) ft)
        (SparseCore.rows ((lst r v hw c).view.read (Elt F) fI) hn hlst)) k x
      = tabAt ft (at2 (m := 512) (n := 50) fI (4 * r.val + c.val) k).toNat x := by
  unfold SparseCore.gatherPayload SparseCore.rows
  refine (View.read_apply _ _).trans ((cast_eq _ _).trans ?_)
  refine at2_eq (m := 100002) (n := 128) ft _ ?_ ?_
  · refine (Nat.zero_add _).trans ((Nat.one_mul _).trans ((congrArg Fin.val (Shape.Gathers.idx_axis gathers_S100002x128_S50x128 _ _)).trans ?_))
    refine congrArg BitVec.toNat ((lst_read d L fI r v hw hv c _).trans (congrArg (at2 (m := 512) (n := 50) fI (4 * r.val + c.val)) ?_))
    refine (Shape.rowMajor_val_one _).symm.trans ?_
    rw [Equiv.apply_symm_apply]
    exact Nat.mod_eq_of_lt hk
  · refine (Nat.zero_add _).trans ((Nat.one_mul _).trans ((Shape.Gathers.idx_of_ne gathers_S100002x128_S50x128 _ _ (1 : Fin 2) (by decide)).trans ?_))
    exact Nat.mod_eq_of_lt hx

abbrev rest2 (q : PosShare TreeShare) (fI : Buf (Elt F) ((thr d L).loc cc0_scratch0)) (ft : Buf (Elt F) ((thr d L).loc main_arg2_scv))
    (O : CellTallies nD τ sig (HIx 1)) (W : Waits sig (HIx 1)) : sProp 𝕄 :=
  iprop(Transfers.MayWaits (thr d L) (default : HIx 1) O
    ∗ ((sI).view.loc (thr d L) ↦{fullShare} fI)
    ∗ ((tV).view.loc (thr d L) ↦{q} ft)
    ∗ (∃ g, (sB).view.loc (thr d L) ↦{fullShare} g)
    ∗ semVal (thr d L, SemLoc.dma cc0_scratch5.sem) 0
    ∗ ∃ W', ⌜∀ p ∈ W', p ∈ W ∨ p.2 = .none⌝ ∗ owes (thr d L) O W')

/-- The row loop's invariant: the chunk's buffer as it is, the accumulators after the first `k` of its rows. -/
def inv3 (g : Buf (Elt F) ((thr d L).loc cc0_scratch3)) (init : ℕ → F .f32) (rows : ℕ → ℕ → F .f32) (t₀ : ℕ) (k : ℕ) (acc : Acc F) : sProp 𝕄 :=
  iprop(((sB).view.loc (thr d L) ↦{fullShare} g) ∗ ⌜acc = accAt init rows (t₀ + k)⌝)

set_option maxHeartbeats 4000000 in
theorem t2_step (q : PosShare TreeShare) (fI : Buf (Elt F) ((thr d L).loc cc0_scratch0)) (ft : Buf (Elt F) ((thr d L).loc main_arg2_scv))
    (O : CellTallies nD τ sig (HIx 1)) (W : Waits sig (HIx 1))
    (v4 v5 : FVec F S16 .f32) (r : Fin k0_t1_loop.trips) (a12 v23 v24 v33 : BitVec 32) (hw : k0_chk1 r v23)
    (v35 v37 v39 v41 : Vec F S16 .f32) (c0 : BitVec 32) (c : Fin (k0_t2_loop v23).trips)
    (init : ℕ → F .f32) (rows : ℕ → ℕ → F .f32) (hv : v23.toNat < 200)
    (hin : ∀ k < 50, (at2 (m := 512) (n := 50) fI (4 * r.val + c.val) k).toNat < 100002)
    (hrows : ∀ k < 50, ∀ x < 128, rows (50 * c.val + k) x = tabAt ft (at2 (m := 512) (n := 50) fI (4 * r.val + c.val) k).toNat x) :
    rest2 d L q fI ft O W
      ⊢ wp frame (wpE (defs₀ (F := F)) 𝒱₀ (thr d L) .none) Set.univ
          (k0_t2_body L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3 v4 v5 r a12 v23 hw v24 v33 v35 v37 v39 v41 c0 c
            (accAt init rows (50 * c.val)))
          fun acc => iprop(rest2 d L q fI ft O W ∗ ⌜acc = accAt init rows (min (50 * (c.val + 1)) (200 - v23.toNat))⌝) := by
  unfold k0_t2_body accAt
  iintro ⟨#Hmw, HI, Ht, ⟨%g, Hb⟩, Hs, %W', %hW', HO⟩
  have hlst : ∀ x, ((lst r v23 hw c).view.read (Elt F) fI x).toNat < S100002x128.size gathers_S100002x128_S50x128.axis := fun x => by
    rw [lst_read d L fI r v23 hw hv c x]; exact hin _ (x 0).isLt
  ihave Hts := (pointsTo_split_subset (q := q) (f := ft) (S := Finset.univ) (Finset.subset_univ (tAll).view.set)).1 $$ Ht
  icases Hts with ⟨Hts, Htr⟩
  ihave HIs := (pointsTo_split_subset (q := fullShare) (f := fI) (S := Finset.univ) (Finset.subset_univ (lst r v23 hw c).view.set)).1 $$ HI
  icases HIs with ⟨HIs, HIr⟩
  have hrs : (sB).view.set = Finset.univ := View.set_whole _
  ihave Hb' := (Entails.of_eq (show ((sB).view.loc (thr d L) ↦{fullShare} g : sProp 𝕄)
      = (sB).view.loc (thr d L) ↦[(sB).view.set]{fullShare} g by rw [hrs])) $$ Hb
  have hN : ∀ h : S100002x128.Gathers 0 S50x128, ∑ j, ((sB).slice (S50x128.rowRect h.axis' j) (S50x128.stride_rowRect h.axis' j)).view.dmaCredit
      = (sB).view.dmaCredit := by decide
  iapply (SparseCore.wp_indirectGatherLocal countersEmb 𝒱₀ (thr d L) .none (hg := gathers_S100002x128_S50x128) (default : HIx 1)
      (sB).view.dmaCredit (hN _) (by decide) hlst) $$ [Hts Hb' HIs Hs]
  · isplitl [Hts]; · iexact Hts
    isplitl [Hb']; · iexact Hb'
    isplitl [HIs]; · iexact HIs
    iexact Hs
  iintro Hfl
  sl_exec
  iapply (Transfers.wp_waitLocalO countersEmb 𝒱₀ (thr d L) .none (default : HIx 1) (rfl : (sB).view.dmaCredit = _)) $$ [Hfl HO]
  · isplitl [Hfl]; · iexact Hfl
    isplitl [HO]; · iexact HO
    iapply (Transfers.MayWaits.elim (SemLoc.dma cc0_scratch5.sem)) $$ Hmw
  iintro ⟨⟨Hb, Hts, HIs⟩, Hs, HO⟩
  ihave Ht := (pointsTo_split_subset (q := q) (f := ft) (S := Finset.univ) (Finset.subset_univ (tAll).view.set)).2 $$ [Hts Htr]; · isplitl [Hts] <;> iassumption
  ihave HI := (pointsTo_split_subset (q := fullShare) (f := fI) (S := Finset.univ) (Finset.subset_univ (lst r v23 hw c).view.set)).2 $$ [HIs HIr]; · isplitl [HIs] <;> iassumption
  ihave Hb2 := (Entails.of_eq (show ((sB).view.loc (thr d L) ↦[(sB).view.set]{fullShare} _ : sProp 𝕄)
      = (sB).view.loc (thr d L) ↦{fullShare} _ by rw [hrs, View.write_whole_univ])) $$ Hb
  have hgg := gathered d L fI ft r v23 hw hv c rfl hlst
  have hq : (k0_t4_loop v23 c).trips = 0 := (t3_all hv c).2.2.2
  sl_exec
  sl_for (inv3 d L (SparseCore.gatherPayload gathers_S100002x128_S50x128 ((tAll).view.read (Elt F) ft)
        (SparseCore.rows ((lst r v23 hw c).view.read (Elt F) fI) rfl hlst)) init rows (50 * c.val)) $$ [Hb2]
  case region =>
    intro j acc
    unfold inv3
    iintro ⟨Hb, %e⟩
    subst e
    iapply (t3_step d L _ v4 v5 r a12 v23 v24 v33 hw v35 v37 v39 v41 c0 c j init rows hv (fun k hk x hx => (hgg k x hk hx).trans (hrows k hk x hx).symm)) $$ Hb
  · unfold inv3
    isplitl [Hb2]; · iexact Hb2
    ipureintro; rfl
  iintro %acc HI3
  unfold inv3
  icases HI3 with ⟨Hb, %e⟩
  subst e
  unfold accAt
  sl_exec
  sl_step
  have et : 50 * c.val + Scf.trips (k0_t3_loop v23 c).lb (k0_t3_loop v23 c).ub (k0_t3_loop v23 c).st = min (50 * (c.val + 1)) (200 - v23.toNat) := by
    have h1 : Scf.trips (k0_t3_loop v23 c).lb (k0_t3_loop v23 c).ub (k0_t3_loop v23 c).st = min (200 - v23.toNat - 50 * c.val) 50 := (t3_all hv c).2.1
    have h2 := (t2_le hv c).2
    rw [h1]; omega
  rw [et]
  isplitl
  · isplitl []; · iexact Hmw
    isplitl [HI]; · iexact HI
    isplitl [Ht]; · iexact Ht
    isplitl [Hb]; · iexists _; iexact Hb
    isplitl [Hs]; · iexact Hs
    iexists (insert (SemLoc.dma cc0_scratch5.sem, (default : HIx 1)) W'); isplitr
    · ipureintro; intro p hp
      rcases Finset.mem_insert.mp hp with hp | hp
      · exact .inr (hp ▸ rfl)
      · exact hW' p hp
    · iexact HO
  ipureintro; rfl

end Cert.KernelIdeal.Pool

end
-- ==== Proof.PadWord.lean ====
module

public import proofs.«01_k».proof.Proof.Setup

@[expose] public section

/-!
  The pad count a sequence's trip reads: of sixteen words, all but the sequence's own are replaced by zero, and the
  greatest is taken (as signed words, by flipping the sign bit around an unsigned running maximum): the sequence's own
  word, the words not being negative.
-/

namespace Cert.KernelIdeal.Pool

open Cert.KernelIdeal Cert.KernelIdeal.Gen
open Cert.Pool
open Idealize.ShloMosaic

/-- A running unsigned maximum whose words are at most `M`, one of them `M`, ends at `M`. -/
theorem fold_max (M : BitVec 32) : ∀ (l : List (BitVec 32)) (a : BitVec 32), a.toNat ≤ M.toNat → (∀ x ∈ l, x.toNat ≤ M.toNat) → (a = M ∨ M ∈ l) →
    l.foldl (fun p x => IntOp.maxui p x) a = M
  | [], a, _, _, h => h.resolve_right (by simp)
  | x :: l, a, ha, hl, h => by
    have hx := hl x (by simp)
    refine fold_max M l (IntOp.maxui a x) ?_ (fun y hy => hl y (by simp [hy])) ?_
    · unfold IntOp.maxui; split <;> assumption
    · rcases h with h | h
      · left
        subst h
        unfold IntOp.maxui
        split
        · rfl
        · rename_i e
          simp only [BitVec.ult, decide_eq_true_eq, not_lt] at e
          exact BitVec.eq_of_toNat_eq (by omega)
      · rcases List.mem_cons.mp h with h | h
        · left
          subst h
          unfold IntOp.maxui
          split
          · rename_i e
            simp only [BitVec.ult, decide_eq_true_eq] at e
            omega
          · rfl
        · exact .inr h

theorem flip_fin : ∀ n : Fin 200, (BitVec.ofNat 32 n.val ^^^ 2147483648#32).toNat = n.val + 2147483648 := by decide +kernel
theorem flip_toNat {x : BitVec 32} (hx : x.toNat < 200) : (x ^^^ 2147483648#32).toNat = x.toNat + 2147483648 := by
  have h := flip_fin ⟨x.toNat, hx⟩
  simpa only [← eq_ofNat] using h

/-- The running maximum's last word, of sixteen words at most `M` of which one is `M`. -/
theorem scan_last (u : IVec S16 32) (m : Fin 16) (h : ∀ k : Fin 16, (u (Shape.ofLane k)).toNat ≤ (u (Shape.ofLane m)).toNat) (i : S16.Idx) (hi : (i 0).val = 15) :
    scan .max u i = u (Shape.ofLane m) := by
  have hl : ((List.finRange 16).filter fun k : Fin 16 => decide (0 < k.val ∧ k.val ≤ 15)) = (List.finRange 15).map Fin.succ := by decide
  have e : scan .max u i = ((List.finRange 15).map fun k => u (Shape.ofLane (Fin.succ k))).foldl (fun p x => IntOp.maxui p x) (u (Shape.ofLane (0 : Fin 16))) := by
    unfold scan
    simp only [hi]
    refine (congrArg (fun l : List (Fin 16) => l.foldl (fun r k => ScanKind.step .max r (u (Shape.ofLane k))) (u (Shape.ofLane (0 : Fin 16)))) hl).trans ?_
    exact List.foldl_map.trans List.foldl_map.symm
  rw [e]
  refine fold_max _ _ _ (h 0) (fun x hx => ?_) ?_
  · obtain ⟨k, -, rfl⟩ := List.mem_map.mp hx
    exact h _
  · rcases Fin.eq_zero_or_eq_succ m with hm | ⟨k, hm⟩
    · left; rw [hm]
    · right; rw [hm]; exact List.mem_map.mpr ⟨k, List.mem_finRange k, rfl⟩

variable {F : FTy → Type} [FloatOps F]

theorem off3_fin : ∀ r : Fin k0_t1_loop.trips, k0_off3 r 0 = 16 * (r.val / 16) := by decide +kernel
theorem lane_fin : ∀ (r : Fin k0_t1_loop.trips) (k : Fin 16), (IntOp.cmpi .eq (BitVec.ofNat 32 (0 * 16 + k.val))
    (Scalar.subi (Scf.iv 0#32 1#32 r) (Scalar.muli (Scalar.shrui (Scf.iv 0#32 1#32 r) 4#32) 16#32)) = 1#1) ↔ k.val = r.val % 16 := by decide +kernel

/-- The pad count the trip for sequence `r` extracts is the sequence's own word. -/
theorem pad_word (v13 : Vec F S16 .i32) (p : ℕ → BitVec 32) (r : Fin k0_t1_loop.trips)
    (h13 : ∀ l : S16.Idx, v13 l = p (16 * (r.val / 16) + (l 0).val)) (hp : ∀ k, (p k).toNat < 200) :
    extractAt ![15] (k0_pay1 (iota .scVector S16 32 [0] iota_S16_d0_w32_scVector) 0#32 1#32 r v13) inpos_S16_p15 = p r.val := by
  let u : IVec S16 32 := fun l => (if (l 0).val = r.val % 16 then p r.val else 0#32) ^^^ 2147483648#32
  have hm : r.val % 16 < 16 := Nat.mod_lt _ (by decide)
  have hu : ∀ l : S16.Idx, xori (select (cmpi .eq (iota .scVector S16 32 [0] iota_S16_d0_w32_scVector)
      (broadcast S16 (Scalar.subi (Scf.iv 0#32 1#32 r) (Scalar.muli (Scalar.shrui (Scf.iv 0#32 1#32 r) 4#32) 16#32)))) v13 (broadcast S16 0#32))
      (broadcast S16 2147483648#32) l = u l := by
    intro l
    have hl := lane_fin r (l 0)
    show IntOp.xori (if _ = 1#1 then v13 l else 0#32) 2147483648#32 = _
    refine congrArg (fun w : BitVec 32 => w ^^^ 2147483648#32) ?_
    by_cases hB : (l 0).val = r.val % 16
    · refine (if_pos (hl.mpr hB)).trans (Eq.trans ?_ (if_pos hB).symm)
      rw [h13, hB]
      exact congrArg p (Nat.div_add_mod r.val 16)
    · exact (if_neg (fun hA => hB (hl.mp hA))).trans (if_neg hB).symm
  have hs := scan_last u ⟨r.val % 16, hm⟩ (fun k => by
    show ((if k.val = r.val % 16 then p r.val else 0#32) ^^^ 2147483648#32).toNat ≤ ((if r.val % 16 = r.val % 16 then p r.val else 0#32) ^^^ 2147483648#32).toNat
    rw [if_pos rfl, flip_toNat (hp _)]
    split
    · rw [flip_toNat (hp _)]
    · show 2147483648 ≤ _; omega) (fun a => ⟨![15] a, inpos_S16_p15 a⟩) rfl
  have hpay : extractAt ![15] (k0_pay1 (iota .scVector S16 32 [0] iota_S16_d0_w32_scVector) 0#32 1#32 r v13) inpos_S16_p15
      = scan .max u (fun a => ⟨![15] a, inpos_S16_p15 a⟩) ^^^ 2147483648#32 := by
    rw [← (funext hu : _ = u)]; rfl
  rw [hpay, hs]
  show ((if r.val % 16 = r.val % 16 then p r.val else 0#32) ^^^ 2147483648#32) ^^^ 2147483648#32 = _
  rw [if_pos rfl, BitVec.xor_assoc]; simp

end Cert.KernelIdeal.Pool
-- ==== Proof.Seq.lean ====
module

public import proofs.«01_k».proof.Proof.Loop2
public import proofs.«01_k».proof.Proof.PadWord

@[expose] public section

/-! One sequence: its pad count is read, its chunks are gathered and accumulated, and its row of results is stored. -/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (d : Dev nD) (L : grid0.Coords)

omit [FloatOps F] in
/-- Sixteen lanes of the padding row, as they are loaded and reshaped. -/
theorem pad_lanes (fZ : Buf (Elt F) ((thr d L).loc cc0_scratch2)) {off : Fin 2 → ℕ} (inb : ∀ a, off a + S1x16.size a ≤ S1x128.size a) {v : ℕ} (e : off = ![0, 16 * v]) :
    shapeCast S16 (View.readAt (Elt F) (sZ).view (Rect.unit (s := S1x128) off S1x16.size inb).toLoadRect fZ) shapeCasts_S1x16_S16
      = lanes (fun x => at2 (m := 1) (n := 128) fZ 0 x) v := by
  subst e
  funext l
  have hl : (l 0).val < 16 := (l 0).isLt
  refine (shapeCast_apply _ _ l (ValueIdx.ix2 (0 : Fin 1) (l 0)) ?_).trans ?_
  · rw [Shape.rowMajor_val_two, Shape.rowMajor_val_one]
    show 0 * 16 + (l 0).val = (l 0).val
    omega
  · refine at2_eq (m := 1) (n := 128) fZ _ (i := 0) (j := 16 * v + (l 0).val) ?_ ?_
    · show 0 + 1 * 0 = 0
      omega
    · show 16 * v + 1 * (l 0).val = 16 * v + (l 0).val
      omega

/-- Where the maxima start, at a sequence with pad count `p`, from the padding row in its buffer. -/
def initZ (fZ : Buf (Elt F) ((thr d L).loc cc0_scratch2)) (p : BitVec 32) (x : ℕ) : F .f32 :=
  Scalar.select (Scalar.cmpi .sgt p 0#32) (at2 (m := 1) (n := 128) fZ 0 x) (Scalar.ofBits .f32 0xFF800000#32)

theorem init_lanes (fZ : Buf (Elt F) ((thr d L).loc cc0_scratch2)) (p : BitVec 32) (rows : ℕ → ℕ → F .f32) {off : Fin 2 → ℕ} (inb : ∀ a, off a + S1x16.size a ≤ S1x128.size a) {v : ℕ} (e : off = ![0, 16 * v]) :
    Scalar.select (Scalar.cmpi .sgt p 0#32)
        (shapeCast S16 (View.readAt (Elt F) (sZ).view (Rect.unit (s := S1x128) off S1x16.size inb).toLoadRect fZ) shapeCasts_S1x16_S16) (k0_pay117 (F := F))
      = accM (initZ d L fZ p) rows 0 v := by
  rw [pad_lanes d L fZ inb e]
  unfold Scalar.select
  by_cases h : Scalar.cmpi .sgt p 0#32 = 1
  · rw [if_pos h]; funext l
    show _ = initZ d L fZ p (16 * v + (l 0).val)
    unfold initZ Scalar.select
    rw [if_pos h]; rfl
  · rw [if_neg h]; funext l
    show _ = initZ d L fZ p (16 * v + (l 0).val)
    unfold initZ Scalar.select
    rw [if_neg h]; rfl

/-- The chunk loop's invariant: what a chunk needs, and the accumulators after the first `k` chunks' valid rows. -/
def inv2 (q : PosShare TreeShare) (fI : Buf (Elt F) ((thr d L).loc cc0_scratch0)) (ft : Buf (Elt F) ((thr d L).loc main_arg2_scv))
    (O : CellTallies nD τ sig (HIx 1)) (W : Waits sig (HIx 1)) (init : ℕ → F .f32) (rows : ℕ → ℕ → F .f32) (n : ℕ) (k : ℕ) (acc : Acc F) : sProp 𝕄 :=
  iprop(rest2 d L q fI ft O W ∗ ⌜acc = accAt init rows (min (50 * k) n)⌝)

set_option maxHeartbeats 4000000 in
theorem part2_run (q : PosShare TreeShare) (fI : Buf (Elt F) ((thr d L).loc cc0_scratch0)) (ft : Buf (Elt F) ((thr d L).loc main_arg2_scv))
    (fZ : Buf (Elt F) ((thr d L).loc cc0_scratch2))
    (O : CellTallies nD τ sig (HIx 1)) (W : Waits sig (HIx 1))
    (r : Fin k0_t1_loop.trips) (a12 v23 v24 v33 : BitVec 32) (hw : k0_chk1 r v23) (c0 : BitVec 32)
    (rows : ℕ → ℕ → F .f32) (hv : v23.toNat < 200)
    (hin : ∀ c < 4, ∀ k < 50, (at2 (m := 512) (n := 50) fI (4 * r.val + c) k).toNat < 100002)
    (hrows : ∀ c < 4, ∀ k < 50, ∀ x < 128, rows (50 * c + k) x = tabAt ft (at2 (m := 512) (n := 50) fI (4 * r.val + c) k).toNat x) :
    iprop(rest2 d L q fI ft O W ∗ ((sZ).view.loc (thr d L) ↦{fullShare} fZ))
      ⊢ wp frame (wpE (defs₀ (F := F)) 𝒱₀ (thr d L) .none) Set.univ
          (k0_part2 L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3 (k0_pay117 (F := F)) (k0_pay118 (F := F)) r a12 v23 hw v24 v33
            (k0_pay2 (View.readAt (Elt F) (sZ).view (Rect.unit (s := S1x128) ![0, 0] S1x16.size inb_S1x128_S1x16_0_0).toLoadRect fZ))
            (k0_pay3 (View.readAt (Elt F) (sZ).view (Rect.unit (s := S1x128) ![0, 16] S1x16.size inb_S1x128_S1x16_0_16).toLoadRect fZ))
            (k0_pay4 (View.readAt (Elt F) (sZ).view (Rect.unit (s := S1x128) ![0, 32] S1x16.size inb_S1x128_S1x16_0_32).toLoadRect fZ))
            (k0_pay5 (View.readAt (Elt F) (sZ).view (Rect.unit (s := S1x128) ![0, 48] S1x16.size inb_S1x128_S1x16_0_48).toLoadRect fZ)) c0)
          fun res => iprop(rest2 d L q fI ft O W ∗ ((sZ).view.loc (thr d L) ↦{fullShare} fZ)
            ∗ ⌜res = ⟨accS rows (200 - v23.toNat) 0, accS rows (200 - v23.toNat) 1, accS rows (200 - v23.toNat) 2, accS rows (200 - v23.toNat) 3, accS rows (200 - v23.toNat) 4, accS rows (200 - v23.toNat) 5, accS rows (200 - v23.toNat) 6, accS rows (200 - v23.toNat) 7,
              accM (initZ d L fZ v23) rows (200 - v23.toNat) 0, accM (initZ d L fZ v23) rows (200 - v23.toNat) 1, accM (initZ d L fZ v23) rows (200 - v23.toNat) 2, accM (initZ d L fZ v23) rows (200 - v23.toNat) 3, accM (initZ d L fZ v23) rows (200 - v23.toNat) 4, accM (initZ d L fZ v23) rows (200 - v23.toNat) 5, accM (initZ d L fZ v23) rows (200 - v23.toNat) 6, accM (initZ d L fZ v23) rows (200 - v23.toNat) 7, k0_pay110 (F := F) v24, Scalar.ofBits .f32 0x3F800000#32⟩⌝) := by
  rw [k0_part2_eq_skeleton]; unfold k0_part2_skel
  iintro ⟨HR, HZ⟩
  have hq : (k0_t5_loop v23).trips = 0 := t5_trips hv
  sl_exec
  sl_for (inv2 d L q fI ft O W (initZ d L fZ v23) rows (200 - v23.toNat)) $$ [HR]
  case region =>
    intro c acc
    unfold inv2
    iintro ⟨HR, %e⟩
    subst e
    rw [show min (50 * c.val) (200 - v23.toNat) = 50 * c.val from by have := (t2_le hv c).2; omega]
    iapply (t2_step d L q fI ft O W _ _ r a12 v23 v24 v33 hw _ _ _ _ c0 c (initZ d L fZ v23) rows hv (hin c.val (t2_le hv c).1) (hrows c.val (t2_le hv c).1)) $$ HR
  · unfold inv2
    isplitl [HR]; · iexact HR
    ipureintro
    rw [show min (50 * 0) (200 - v23.toNat) = 0 from by omega]
    refine Prod.ext_iff.mpr ⟨rfl, Prod.ext_iff.mpr ⟨rfl, Prod.ext_iff.mpr ⟨rfl, Prod.ext_iff.mpr ⟨rfl, Prod.ext_iff.mpr ⟨rfl, Prod.ext_iff.mpr ⟨rfl,
      Prod.ext_iff.mpr ⟨rfl, Prod.ext_iff.mpr ⟨rfl, ?_⟩⟩⟩⟩⟩⟩⟩⟩
    refine Prod.ext_iff.mpr ⟨init_lanes d L fZ v23 rows inb_S1x128_S1x16_0_0 (v := 0) rfl, ?_⟩
    refine Prod.ext_iff.mpr ⟨init_lanes d L fZ v23 rows inb_S1x128_S1x16_0_16 (v := 1) rfl, ?_⟩
    refine Prod.ext_iff.mpr ⟨init_lanes d L fZ v23 rows inb_S1x128_S1x16_0_32 (v := 2) rfl, ?_⟩
    refine Prod.ext_iff.mpr ⟨init_lanes d L fZ v23 rows inb_S1x128_S1x16_0_48 (v := 3) rfl, ?_⟩
    refine Prod.ext_iff.mpr ⟨init_lanes d L fZ v23 rows inb_S1x128_S1x16_0_64 (v := 4) rfl, ?_⟩
    refine Prod.ext_iff.mpr ⟨init_lanes d L fZ v23 rows inb_S1x128_S1x16_0_80 (v := 5) rfl, ?_⟩
    refine Prod.ext_iff.mpr ⟨init_lanes d L fZ v23 rows inb_S1x128_S1x16_0_96 (v := 6) rfl, ?_⟩
    exact init_lanes d L fZ v23 rows inb_S1x128_S1x16_0_112 (v := 7) rfl
  iintro %acc HI2
  unfold inv2
  icases HI2 with ⟨HR, %e⟩
  rw [show min (50 * Scf.trips (k0_t2_loop v23).lb (k0_t2_loop v23).ub (k0_t2_loop v23).st) (200 - v23.toNat) = 200 - v23.toNat from by
    have h1 : Scf.trips (k0_t2_loop v23).lb (k0_t2_loop v23).ub (k0_t2_loop v23).st = (249 - v23.toNat) / 50 := t2_trips hv
    rw [h1]; omega] at e
  subst e
  unfold accAt
  sl_exec
  sl_step
  isplitl [HR]; · iexact HR
  isplitl [HZ]; · iexact HZ
  ipureintro; rfl

end Cert.KernelIdeal.Pool

end
-- ==== Proof.Trip.lean ====
module

public import proofs.«01_k».proof.Proof.Seq
public import Idealize.ShloMosaic.Lib.WritesUnit

@[expose] public section

/-! One sequence: its pad count is read, its chunks are gathered and accumulated, and its row of results is stored. -/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (d : Dev nD) (L : grid0.Coords)

/-- The row a sequence leaves, from the padding row in its buffer, the sequence's pad count and its rows. -/
def rowOut (fZ : Buf (Elt F) ((thr d L).loc cc0_scratch2)) (p : BitVec 32) (rows : ℕ → ℕ → F .f32) (x : ℕ) : F .f32 :=
  if x < 128 then maxA (initZ d L fZ p) rows x (200 - p.toNat) else FloatOps.mulf (sumA rows (x - 128) (200 - p.toNat)) (scaleOf p)

/-- A list of stores into the staged results that, at row `r` and the columns in `S`, leaves the row `w`, and leaves the other rows. -/
def RowDone (fo : Buf (Elt F) ((thr d L).loc cc0_scratch4)) (r : ℕ) (w : ℕ → F .f32) (S : ℕ → Prop) (G : List (View.Piece (Elt F) S128x256 .f32)) : Prop :=
  (∀ y : S128x256.Idx, (y 0).val = r → S (y 1).val → (sO).view.read (Elt F) ((sO).view.writes (Elt F) fo G) y = w (y 1).val)
    ∧ ∀ y : S128x256.Idx, (y 0).val ≠ r → (sO).view.read (Elt F) ((sO).view.writes (Elt F) fo G) y = fo y

omit [FloatOps F] in
theorem rowDone_nil (fo : Buf (Elt F) ((thr d L).loc cc0_scratch4)) (r : ℕ) (w : ℕ → F .f32) : RowDone d L fo r w (fun _ => False) [] :=
  ⟨fun _ _ h => h.elim, fun _ _ => rfl⟩

omit [FloatOps F] in
theorem rowDone_cons {fo : Buf (Elt F) ((thr d L).loc cc0_scratch4)} {r : ℕ} {w : ℕ → F .f32} {S : ℕ → Prop} {G : List (View.Piece (Elt F) S128x256 .f32)}
    (h : RowDone d L fo r w S G) {off : Fin 2 → ℕ} (inb : ∀ a, off a + S1x16.size a ≤ S128x256.size a) {c : ℕ} (e : off = ![r, c])
    (u : FVec F S16 .f32) (hu : ∀ l : S16.Idx, u l = w (c + (l 0).val)) :
    RowDone d L fo r w (fun x => S x ∨ (c ≤ x ∧ x < c + 16)) (⟨Rect.unit (s := S128x256) off S1x16.size inb, shapeCast S1x16 u shapeCasts_S16_S1x16⟩ :: G) := by
  refine ⟨fun y hy hS => ?_, fun y hy => ?_⟩
  · by_cases hc : c ≤ (y 1).val ∧ (y 1).val < c + 16
    · have hlt : (y 1).val - c < 16 := by omega
      refine (View.read_writes_cons_unit_of_mem (s := S128x256) _ _ (off' := ![r, c]) inb _ _ y (ValueIdx.ix2 (0 : Fin 1) (⟨(y 1).val - c, hlt⟩ : Fin 16)) e ?_).trans ?_
      · refine Fin.forall_fin_two.mpr ⟨?_, ?_⟩
        · show (y 0).val = r + 0
          omega
        · show (y 1).val = c + ((y 1).val - c)
          omega
      · refine (shapeCast_apply _ _ _ (Shape.ofLane (⟨(y 1).val - c, hlt⟩ : Fin 16)) ?_).trans ((hu _).trans ?_)
        · rw [Shape.rowMajor_val_two, Shape.rowMajor_val_one]
          show (y 1).val - c = 0 * 16 + ((y 1).val - c)
          omega
        · refine congrArg w ?_
          show c + ((y 1).val - c) = (y 1).val
          omega
    · refine (View.read_writes_cons_unit_of_not_mem (s := S128x256) _ _ (off' := ![r, c]) inb _ _ y e (1 : Fin 2) ?_).trans (h.1 y hy (hS.resolve_right hc))
      show (y 1).val < c ∨ c + 16 ≤ (y 1).val
      omega
  · refine (View.read_writes_cons_unit_of_not_mem (s := S128x256) _ _ (off' := ![r, c]) inb _ _ y e (0 : Fin 2) ?_).trans (h.2 y hy)
    show (y 0).val < r ∨ r + 1 ≤ (y 0).val
    omega

omit [FloatOps F] in
/-- What the first stretch hands on, at one pad count and at an equal one. -/
theorem part1_res {r : Fin k0_t1_loop.trips} {w w' : BitVec 32} (e : w = w') (a12 : BitVec 32) (h : k0_chk1 r w) (f : BitVec 32 → BitVec 32) (x y z u : Vec F S16 .f32) :
    ∃ (a12' v33 : BitVec 32) (hw : k0_chk1 r w'), (⟨a12, w, h, Scalar.subi 200#32 w, f w, x, y, z, u, 0#32⟩ :
      Σ' (_ : BitVec 32) (v23 : BitVec 32) (_ : k0_chk1 r v23) (_ : BitVec 32) (_ : BitVec 32) (_ : Vec F S16 .f32) (_ : Vec F S16 .f32) (_ : Vec F S16 .f32) (_ : Vec F S16 .f32), BitVec 32)
      = ⟨a12', w', hw, Scalar.subi 200#32 w', v33, x, y, z, u, 0#32⟩ := by
  subst e; exact ⟨_, _, _, rfl⟩

set_option maxHeartbeats 1000000 in
/-- The trip's first stretch: the sequence's pad count is read, and half of the padding row's vectors. -/
theorem part1_run (fP : Buf (Elt F) ((thr d L).loc cc0_scratch1)) (fZ : Buf (Elt F) ((thr d L).loc cc0_scratch2))
    (r : Fin k0_t1_loop.trips) (hp : ∀ k, (at1 (n := 128) fP k).toNat < 200) :
    (iprop(((sP).view.loc (thr d L) ↦{fullShare} fP) ∗ ((sZ).view.loc (thr d L) ↦{fullShare} fZ)) : sProp 𝕄)
      ⊢ wp frame (wpE (defs₀ (F := F)) 𝒱₀ (thr d L) .none) Set.univ
          (k0_part1 L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3 (iota .scVector S16 32 [0] iota_S16_d0_w32_scVector) 0#32 1#32 r)
          fun res => iprop(((sP).view.loc (thr d L) ↦{fullShare} fP) ∗ ((sZ).view.loc (thr d L) ↦{fullShare} fZ)
            ∗ ⌜∃ (a12 v33 : BitVec 32) (hw : k0_chk1 r (at1 (n := 128) fP r.val)), res = ⟨a12, at1 (n := 128) fP r.val, hw, Scalar.subi 200#32 (at1 (n := 128) fP r.val), v33,
                k0_pay2 (View.readAt (Elt F) (sZ).view (Rect.unit (s := S1x128) ![0, 0] S1x16.size inb_S1x128_S1x16_0_0).toLoadRect fZ),
                k0_pay3 (View.readAt (Elt F) (sZ).view (Rect.unit (s := S1x128) ![0, 16] S1x16.size inb_S1x128_S1x16_0_16).toLoadRect fZ),
                k0_pay4 (View.readAt (Elt F) (sZ).view (Rect.unit (s := S1x128) ![0, 32] S1x16.size inb_S1x128_S1x16_0_32).toLoadRect fZ),
                k0_pay5 (View.readAt (Elt F) (sZ).view (Rect.unit (s := S1x128) ![0, 48] S1x16.size inb_S1x128_S1x16_0_48).toLoadRect fZ), 0#32⟩⌝) := by
  have hr : r.val < 128 := t1_trips ▸ r.isLt
  have hword : extractAt ![15] (k0_pay1 (F := F) (iota .scVector S16 32 [0] iota_S16_d0_w32_scVector) 0#32 1#32 r
      (View.readAt (Elt F) (sP).view (Rect.unit (s := S128) (k0_off3 r) S16.size (k0_off3_inb r)).toLoadRect fP)) inpos_S16_p15 = at1 (n := 128) fP r.val := by
    refine pad_word (F := F) _ (fun k => at1 (n := 128) fP k) r (fun l => ?_) hp
    refine at1_eq (n := 128) fP _ ?_
    show k0_off3 r 0 + 1 * (l 0).val = 16 * (r.val / 16) + (l 0).val
    rw [off3_fin r]; omega
  rw [k0_part1_eq_skeleton]; unfold k0_part1_skel
  iintro ⟨HP, HZ⟩
  have hchk : k0_chk1 r (extractAt ![15] (k0_pay1 (F := F) (iota .scVector S16 32 [0] iota_S16_d0_w32_scVector) 0#32 1#32 r
      (View.readAt (Elt F) (sP).view (Rect.unit (s := S128) (k0_off3 r) S16.size (k0_off3_inb r)).toLoadRect fP)) inpos_S16_p15) := by
    rw [hword]; exact chk1 (hp _) r
  sl_exec
  sl_step
  isplitl [HP]; · iexact HP
  isplitl [HZ]; · iexact HZ
  ipureintro
  exact part1_res hword _ hchk (fun w => Scalar.addi (Scalar.addi (Scalar.addi 1#32 (Scalar.extui (Scalar.cmpi .sgt (Scalar.subi 200#32 w) 50#32)))
    (Scalar.extui (Scalar.cmpi .sgt (Scalar.subi 200#32 w) 100#32))) (Scalar.extui (Scalar.cmpi .sgt (Scalar.subi 200#32 w) 150#32))) _ _ _ _

set_option maxHeartbeats 4000000 in
theorem t1_step (q : PosShare TreeShare) (fI : Buf (Elt F) ((thr d L).loc cc0_scratch0)) (ft : Buf (Elt F) ((thr d L).loc main_arg2_scv))
    (fP : Buf (Elt F) ((thr d L).loc cc0_scratch1)) (fZ : Buf (Elt F) ((thr d L).loc cc0_scratch2)) (fo : Buf (Elt F) ((thr d L).loc cc0_scratch4))
    (O : CellTallies nD τ sig (HIx 1)) (W : Waits sig (HIx 1)) (r : Fin k0_t1_loop.trips) (acc : PUnit)
    (rows : ℕ → ℕ → F .f32) (hp : ∀ k, (at1 (n := 128) fP k).toNat < 200)
    (hin : ∀ c < 4, ∀ k < 50, (at2 (m := 512) (n := 50) fI (4 * r.val + c) k).toNat < 100002)
    (hrows : ∀ c < 4, ∀ k < 50, ∀ x < 128, rows (50 * c + k) x = tabAt ft (at2 (m := 512) (n := 50) fI (4 * r.val + c) k).toNat x) :
    iprop(rest2 d L q fI ft O W ∗ ((sP).view.loc (thr d L) ↦{fullShare} fP) ∗ ((sZ).view.loc (thr d L) ↦{fullShare} fZ) ∗ ((sO).view.loc (thr d L) ↦{fullShare} fo))
      ⊢ wp frame (wpE (defs₀ (F := F)) 𝒱₀ (thr d L) .none) Set.univ
          (k0_t1_body L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3 (iota .scVector S16 32 [0] iota_S16_d0_w32_scVector) r acc)
          fun _ => iprop(rest2 d L q fI ft O W ∗ ((sP).view.loc (thr d L) ↦{fullShare} fP) ∗ ((sZ).view.loc (thr d L) ↦{fullShare} fZ)
            ∗ ∃ fo', ((sO).view.loc (thr d L) ↦{fullShare} fo') ∗ ⌜(∀ y : S128x256.Idx, (y 0).val = r.val → fo' y = rowOut d L fZ (at1 (n := 128) fP r.val) rows (y 1).val)
              ∧ ∀ y : S128x256.Idx, (y 0).val ≠ r.val → fo' y = fo y⌝) := by
  unfold k0_t1_body
  iintro ⟨HR, HP, HZ, HO⟩
  rw [wp_bind]
  iapply (wp_wand _ _ _) $$ [HP HZ]
  · iapply (part1_run d L fP fZ r hp)
    isplitl [HP]; · iexact HP
    iexact HZ
  iintro %res1 ⟨HP, HZ, %h1⟩
  obtain ⟨a12, v33, hw, h1⟩ := h1
  subst h1
  rw [wp_bind]
  iapply (wp_wand _ _ _) $$ [HR HZ]
  · iapply (part2_run d L q fI ft fZ O W r a12 (at1 (n := 128) fP r.val) (Scalar.subi 200#32 (at1 (n := 128) fP r.val)) v33 hw 0#32 rows (hp _) hin hrows)
    isplitl [HR]; · iexact HR
    iexact HZ
  iintro %res2 ⟨HR, HZ, %h2⟩
  subst h2
  sl_exec
  sl_step
  isplitl [HR]; · iexact HR
  isplitl [HP]; · iexact HP
  isplitl [HZ]; · iexact HZ
  iexists _
  isplitl [HO]; · iexact HO
  ipureintro
  have hlo : ∀ v < 8, ∀ l : S16.Idx, accM (initZ d L fZ (at1 (n := 128) fP r.val)) rows (200 - (at1 (n := 128) fP r.val).toNat) v l
      = rowOut d L fZ (at1 (n := 128) fP r.val) rows (16 * v + (l 0).val) := fun v hv l => by
    have hl : (l 0).val < 16 := (l 0).isLt
    unfold rowOut
    rw [if_pos (by omega)]; rfl
  have hhi : ∀ v, ∀ l : S16.Idx, FloatOps.mulf (accS rows (200 - (at1 (n := 128) fP r.val).toNat) v l) (scaleOf (at1 (n := 128) fP r.val))
      = rowOut d L fZ (at1 (n := 128) fP r.val) rows (128 + 16 * v + (l 0).val) := fun v l => by
    unfold rowOut
    rw [if_neg (by omega), show 128 + 16 * v + (l 0).val - 128 = 16 * v + (l 0).val from by omega]; rfl
  have H := rowDone_nil d L fo r.val (rowOut d L fZ (at1 (n := 128) fP r.val) rows)
  replace H := rowDone_cons d L H (k0_off38_inb r) (k0_off38_eq r) _ (hlo 0 (by decide))
  replace H := rowDone_cons d L H (k0_off39_inb r) (k0_off39_eq r) _ (hhi 0)
  replace H := rowDone_cons d L H (k0_off40_inb r) (k0_off40_eq r) _ (hlo 1 (by decide))
  replace H := rowDone_cons d L H (k0_off41_inb r) (k0_off41_eq r) _ (hhi 1)
  replace H := rowDone_cons d L H (k0_off42_inb r) (k0_off42_eq r) _ (hlo 2 (by decide))
  replace H := rowDone_cons d L H (k0_off43_inb r) (k0_off43_eq r) _ (hhi 2)
  replace H := rowDone_cons d L H (k0_off44_inb r) (k0_off44_eq r) _ (hlo 3 (by decide))
  replace H := rowDone_cons d L H (k0_off45_inb r) (k0_off45_eq r) _ (hhi 3)
  replace H := rowDone_cons d L H (k0_off46_inb r) (k0_off46_eq r) _ (hlo 4 (by decide))
  replace H := rowDone_cons d L H (k0_off47_inb r) (k0_off47_eq r) _ (hhi 4)
  replace H := rowDone_cons d L H (k0_off48_inb r) (k0_off48_eq r) _ (hlo 5 (by decide))
  replace H := rowDone_cons d L H (k0_off49_inb r) (k0_off49_eq r) _ (hhi 5)
  replace H := rowDone_cons d L H (k0_off50_inb r) (k0_off50_eq r) _ (hlo 6 (by decide))
  replace H := rowDone_cons d L H (k0_off51_inb r) (k0_off51_eq r) _ (hhi 6)
  replace H := rowDone_cons d L H (k0_off52_inb r) (k0_off52_eq r) _ (hlo 7 (by decide))
  replace H := rowDone_cons d L H (k0_off53_inb r) (k0_off53_eq r) _ (hhi 7)
  exact ⟨fun y hy => H.1 y hy (by have := (show (y 1).val < 256 from (y 1).isLt); omega), fun y hy => H.2 y hy⟩

end Cert.KernelIdeal.Pool

end
-- ==== Proof.Tile.lean ====
module

public import proofs.«01_k».proof.Proof.Trip

@[expose] public section

/-! One tile: its lists, its pad counts and the padding row are fetched, its 128 sequences are pooled, and their rows are written out. -/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (d : Dev nD) (L : grid0.Coords)

/-- The tile's number. -/
abbrev wid (L : grid0.Coords) : ℕ := 2 * (L 1).val + (L 0).val

/-- The tile's lists, pad counts and results, as it addresses them. -/
abbrev iSl : Memref sig .scVector .hbm S512x50 .i32 := (iV).slice (Rect.unit (s := S16384x50) (k0_off1 L) S512x50.size (k0_off1_inb L)) (fun _ => rfl)
abbrev pSl : Memref sig .scVector .hbm S128 .i32 := (pV).slice (Rect.unit (s := S4096) (k0_off2 L) S128.size (k0_off2_inb L)) (fun _ => rfl)
abbrev oSl : Memref sig .scVector .hbm S128x256 .f32 := (oV).slice (Rect.unit (s := S4096x256) (k0_off54 L) S128x256.size (k0_off54_inb L)) (fun _ => rfl)
abbrev zSl : Memref sig .scVector .hbm S1x128 .f32 := (tV).slice (Rect.unit (s := S100002x128) ![100001, 0] S1x128.size inb_S100002x128_S1x128_100001_0) (fun _ => rfl)

omit [FloatOps F] in
theorem iSl_read (fi : Buf (Elt F) ((thr d L).loc main_v0_scv)) (x : S512x50.Idx) :
    (iSl L).view.read (Elt F) fi x = at2 (m := 16384) (n := 50) fi (512 * wid L + (x 0).val) (x 1).val := by
  refine (View.read_apply _ _).trans ((cast_eq _ _).trans ?_)
  have ho := k0_off1_eq L
  refine at2_eq (m := 16384) (n := 50) fi _ ?_ ?_
  · show k0_off1 L 0 + 1 * (x 0).val = _
    rw [ho]
    show 1024 * (L 1).val + 512 * (L 0).val + 1 * (x 0).val = 512 * (2 * (L 1).val + (L 0).val) + (x 0).val
    omega
  · show k0_off1 L 1 + 1 * (x 1).val = _
    rw [ho]
    show 0 + 1 * (x 1).val = _
    omega

omit [FloatOps F] in
theorem pSl_read (fp : Buf (Elt F) ((thr d L).loc main_arg1_scv)) (x : S128.Idx) :
    (pSl L).view.read (Elt F) fp x = at1 (n := 4096) fp (128 * wid L + (x 0).val) := by
  refine (View.read_apply _ _).trans ((cast_eq _ _).trans ?_)
  have ho := k0_off2_eq L
  refine at1_eq (n := 4096) fp _ ?_
  show k0_off2 L 0 + 1 * (x 0).val = _
  rw [ho]
  show 256 * (L 1).val + 128 * (L 0).val + 1 * (x 0).val = 128 * (2 * (L 1).val + (L 0).val) + (x 0).val
  omega

omit [FloatOps F] in
theorem zSl_read (ft : Buf (Elt F) ((thr d L).loc main_arg2_scv)) (x : S1x128.Idx) :
    (zSl).view.read (Elt F) ft x = at2 (m := 100002) (n := 128) ft 100001 (x 1).val := by
  refine (View.read_apply _ _).trans ((cast_eq _ _).trans ?_)
  have h0 : (x 0).val < 1 := (x 0).isLt
  refine at2_eq (m := 100002) (n := 128) ft _ ?_ ?_
  · show 100001 + 1 * (x 0).val = _
    omega
  · show 0 + 1 * (x 1).val = _
    omega

/-- The staged results written out are the tile's rows of the array of results. -/
theorem oSl_written (fi : Buf (Elt F) ((thr d L).loc main_v0_scv)) (fp : Buf (Elt F) ((thr d L).loc main_arg1_scv)) (ft : Buf (Elt F) ((thr d L).loc main_arg2_scv))
    (fo : Buf (Elt F) ((thr d L).loc main_v1_scv)) (g : Buf (Elt F) ((thr d L).loc cc0_scratch4))
    (hg : ∀ y : S128x256.Idx, g y = outAt fi fp ft (128 * wid L + (y 0).val) (y 1).val) (i : S4096x256.Idx) (hi : i ∈ (oSl L).view.set) :
    (oSl L).view.writes (Elt F) fo [⟨Rect.whole S128x256, (sO).view.read (Elt F) g⟩] i = outArr fi fp ft i := by
  obtain ⟨x, -, rfl⟩ := Finset.mem_map.mp hi
  have h := View.read_writes_cons_emb (oSl L).view fo (Rect.whole S128x256) ((sO).view.read (Elt F) g) [] x
  have e : (Rect.whole S128x256).emb x = x := Rect.emb_whole_apply S128x256 x
  rw [e] at h
  refine ((View.read_apply _ _).trans (cast_eq _ _)).symm.trans (h.trans ((hg x).trans ?_))
  have ho := k0_off54_eq L
  have h0 : ((oSl L).view.emb x 0).val = 128 * wid L + (x 0).val := by
    show k0_off54 L 0 + 1 * (x 0).val = 128 * (2 * (L 1).val + (L 0).val) + (x 0).val
    rw [ho]
    show 256 * (L 1).val + 128 * (L 0).val + 1 * (x 0).val = _
    omega
  have h1 : ((oSl L).view.emb x 1).val = (x 1).val := by
    show k0_off54 L 1 + 1 * (x 1).val = (x 1).val
    rw [ho]
    show 0 + 1 * (x 1).val = _
    omega
  show outAt fi fp ft (128 * wid L + (x 0).val) (x 1).val = outAt fi fp ft ((oSl L).view.emb x 0).val ((oSl L).view.emb x 1).val
  rw [h0, h1]

/-- The sequence loop's invariant: what a sequence needs, and the staged results, the first `k` sequences' done. -/
def inv1 (q : PosShare TreeShare) (fi : Buf (Elt F) ((thr d L).loc main_v0_scv)) (fp : Buf (Elt F) ((thr d L).loc main_arg1_scv)) (ft : Buf (Elt F) ((thr d L).loc main_arg2_scv))
    (fI : Buf (Elt F) ((thr d L).loc cc0_scratch0)) (fP : Buf (Elt F) ((thr d L).loc cc0_scratch1)) (fZ : Buf (Elt F) ((thr d L).loc cc0_scratch2))
    (O : CellTallies nD τ sig (HIx 1)) (W : Waits sig (HIx 1)) (k : ℕ) (_ : PUnit) : sProp 𝕄 :=
  iprop(rest2 d L q fI ft O W ∗ ((sP).view.loc (thr d L) ↦{fullShare} fP) ∗ ((sZ).view.loc (thr d L) ↦{fullShare} fZ)
    ∗ ∃ fo, ((sO).view.loc (thr d L) ↦{fullShare} fo) ∗ ⌜∀ y : S128x256.Idx, (y 0).val < k → fo y = outAt fi fp ft (128 * wid L + (y 0).val) (y 1).val⌝)

set_option maxHeartbeats 4000000 in
theorem tile_run (q : PosShare TreeShare) (fi : Buf (Elt F) ((thr d L).loc main_v0_scv)) (fp : Buf (Elt F) ((thr d L).loc main_arg1_scv)) (ft : Buf (Elt F) ((thr d L).loc main_arg2_scv))
    (fo : Buf (Elt F) ((thr d L).loc main_v1_scv))
    (O : CellTallies nD τ sig (HIx 1)) (W : Waits sig (HIx 1)) (hi : ∀ y, (fi y).toNat < 100002) (hp : ∀ y, (fp y).toNat < 200) :
    (iprop(Transfers.MayWaits (thr d L) (default : HIx 1) O
        ∗ ((iSl L).view.loc (thr d L) ↦[(iSl L).view.set]{fullShare} fi) ∗ ((pSl L).view.loc (thr d L) ↦[(pSl L).view.set]{fullShare} fp)
        ∗ ((tV).view.loc (thr d L) ↦{q} ft) ∗ ((oSl L).view.loc (thr d L) ↦[(oSl L).view.set]{fullShare} fo)
        ∗ (∃ f, (sI).view.loc (thr d L) ↦{fullShare} f) ∗ (∃ f, (sP).view.loc (thr d L) ↦{fullShare} f) ∗ (∃ f, (sZ).view.loc (thr d L) ↦{fullShare} f)
        ∗ (∃ f, (sB).view.loc (thr d L) ↦{fullShare} f) ∗ (∃ f, (sO).view.loc (thr d L) ↦{fullShare} f)
        ∗ semVal (thr d L, SemLoc.dma cc0_scratch5.sem) 0 ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ owes (thr d L) O W) : sProp 𝕄)
      ⊢ wp frame (wpE (defs₀ (F := F)) 𝒱₀ (thr d L) .none) Set.univ
          (cc0__pooler_body L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3)
          fun _ => iprop(
            ((iSl L).view.loc (thr d L) ↦[(iSl L).view.set]{fullShare} fi) ∗ ((pSl L).view.loc (thr d L) ↦[(pSl L).view.set]{fullShare} fp)
            ∗ ((tV).view.loc (thr d L) ↦{q} ft) ∗ ((oSl L).view.loc (thr d L) ↦[(oSl L).view.set]{fullShare} outArr fi fp ft)
            ∗ (∃ f, (sI).view.loc (thr d L) ↦{fullShare} f) ∗ (∃ f, (sP).view.loc (thr d L) ↦{fullShare} f) ∗ (∃ f, (sZ).view.loc (thr d L) ↦{fullShare} f)
            ∗ (∃ f, (sB).view.loc (thr d L) ↦{fullShare} f) ∗ (∃ f, (sO).view.loc (thr d L) ↦{fullShare} f)
            ∗ semVal (thr d L, SemLoc.dma cc0_scratch5.sem) 0 ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ ∃ W', ⌜∀ p ∈ W', p ∈ W ∨ p.2 = .none⌝ ∗ owes (thr d L) O W') := by
  rw [cc0__pooler_body_eq_skeleton]; unfold cc0__pooler_body_skel
  rw [k0_part4_eq_skeleton]; unfold k0_part4_skel
  iintro ⟨#Hmw, Hi, Hp, Ht, Ho, ⟨%f0, HsI⟩, ⟨%f1, HsP⟩, ⟨%f2, HsZ⟩, HsB, ⟨%f4, HsO⟩, Hd5, Hd0, Hd1, Hd2, Hd3, HO⟩
  sl_exec
  have hI : ∀ y, View.write (Elt F) (sI).view f0 (tile_run.sl.dma0 d L fi) Finset.univ y = at2 (m := 16384) (n := 50) fi (512 * wid L + (y 0).val) (y 1).val := fun y => by
    rw [View.write_whole_univ]; exact iSl_read d L fi y
  have hP : ∀ y, View.write (Elt F) (sP).view f1 (tile_run.sl.dma0_1 d L fp) Finset.univ y = at1 (n := 4096) fp (128 * wid L + (y 0).val) := fun y => by
    rw [View.write_whole_univ]; exact pSl_read d L fp y
  have hZ : ∀ y, View.write (Elt F) (sZ).view f2 (tile_run.sl.dma0_2 d L ft) Finset.univ y = at2 (m := 100002) (n := 128) ft 100001 (y 1).val := fun y => by
    rw [View.write_whole_univ]; exact zSl_read d L ft y
  generalize View.write (Elt F) (sI).view f0 (tile_run.sl.dma0 d L fi) Finset.univ = fI at hI ⊢
  generalize View.write (Elt F) (sP).view f1 (tile_run.sl.dma0_1 d L fp) Finset.univ = fP at hP ⊢
  generalize View.write (Elt F) (sZ).view f2 (tile_run.sl.dma0_2 d L ft) Finset.univ = fZ at hZ ⊢
  generalize hW1 : (insert _ (insert _ (insert _ W)) : Waits sig (HIx 1)) = W1
  have hW : ∀ p ∈ W1, p ∈ W ∨ p.2 = .none := fun p hp => by
    subst hW1
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  have hp' : ∀ k, (at1 (n := 128) fP k).toNat < 200 := fun k => by
    unfold at1; rw [hP]; exact hp _
  have hI' : ∀ k < 512, ∀ t < 50, at2 (m := 512) (n := 50) fI k t = at2 (m := 16384) (n := 50) fi (512 * wid L + k) t := fun k hk t ht => by
    unfold at2; rw [hI]; unfold at2
    refine congrArg fi (funext fun a => ?_)
    match a with
    | 0 => exact Fin.ext (show (512 * wid L + k % 512) % 16384 = (512 * wid L + k) % 16384 by rw [Nat.mod_eq_of_lt hk])
    | 1 => exact Fin.ext (show t % 50 % 50 = t % 50 from Nat.mod_mod _ _)
  have hP' : ∀ k < 128, at1 (n := 128) fP k = padAt fp (128 * wid L + k) := fun k hk => by
    unfold padAt at1; rw [hP]; unfold at1
    refine congrArg fp (funext fun a => ?_)
    match a with
    | 0 => exact Fin.ext (show (128 * wid L + k % 128) % 4096 = (128 * wid L + k) % 4096 by rw [Nat.mod_eq_of_lt hk])
  have hZ' : ∀ p, initZ d L fZ p = Cert.Pool.initOf ft p := fun p => funext fun x => by
    unfold initZ Cert.Pool.initOf tabAt
    refine congrArg (fun w => Scalar.select (Scalar.cmpi .sgt p 0#32) w (Scalar.ofBits .f32 0xFF800000#32)) ?_
    unfold at2; rw [hZ]; unfold at2
    refine congrArg ft (funext fun a => ?_)
    match a with
    | 0 => rfl
    | 1 => exact Fin.ext (show x % 128 % 128 = x % 128 from Nat.mod_mod _ _)
  rw [bind_assoc]
  sl_for (inv1 d L q fi fp ft fI fP fZ O W1) $$ [Ht HsB HsO Hd5 HsI HsP HsZ HO]
  case region =>
    intro r acc
    have hr : r.val < 128 := t1_trips ▸ r.isLt
    unfold inv1
    iintro ⟨HR, HP, HZ, %g, HG, %hg⟩
    iapply (wp_wand _ _ _) $$ [HR HP HZ HG]
    · iapply (t1_step d L q fI ft fP fZ g O W1 r acc (rowsOf fi ft (128 * wid L + r.val)) hp' (fun c hc k hk => by
          rw [hI' _ (by omega) _ hk]; exact hi _) (fun c hc k hk x _ => by
          rw [hI' _ (by omega) _ hk]
          unfold rowsOf idsAt
          rw [show 4 * (128 * wid L + r.val) + (50 * c + k) / 50 = 512 * wid L + (4 * r.val + c) by omega, show (50 * c + k) % 50 = k by omega]))
      isplitl [HR]; · iexact HR
      isplitl [HP]; · iexact HP
      isplitl [HZ]; · iexact HZ
      iexact HG
    iintro %_ ⟨HR, HP, HZ, %g', HG, %hg'⟩
    isplitl [HR]; · iexact HR
    isplitl [HP]; · iexact HP
    isplitl [HZ]; · iexact HZ
    iexists g'
    isplitl [HG]; · iexact HG
    ipureintro
    intro y hy
    by_cases e : (y 0).val = r.val
    · rw [hg'.1 y e, e]
      unfold rowOut outAt
      rw [hP' _ hr, hZ']
    · rw [hg'.2 y e]; exact hg y (by omega)
  · unfold inv1
    isplitl [Ht HsB Hd5 HsI HO]
    · isplitr; · iexact Hmw
      isplitl [HsI]; · iexact HsI
      isplitl [Ht]; · iexact Ht
      isplitl [HsB]; · iexact HsB
      isplitl [Hd5]; · iexact Hd5
      iexists W1
      isplitr
      · ipureintro; exact fun p hp => .inl hp
      · iexact HO
    isplitl [HsP]; · iexact HsP
    isplitl [HsZ]; · iexact HsZ
    iexists f4
    isplitl [HsO]; · iexact HsO
    ipureintro
    intro y hy
    exact absurd hy (Nat.not_lt_zero _)
  iintro %_ HI1
  unfold inv1
  icases HI1 with ⟨⟨-, HsI, Ht, HsB, Hd5, %W2, %hW2, HO⟩, HsP, HsZ, %g, HsO, %hg⟩
  sl_exec
  sl_step
  isplitl [Hi]; · iexact Hi
  isplitl [Hp]; · iexact Hp
  isplitl [Ht]; · iexact Ht
  isplitl [Ho]
  · iapply (Entails.of_eq (pointsTo_congr fun i hi => oSl_written d L fi fp ft fo g (fun y => hg y (by
      have h1 : Scf.trips k0_t1_loop.lb k0_t1_loop.ub k0_t1_loop.st = 128 := t1_trips
      rw [h1]; exact (y 0).isLt)) i hi))
    iexact Ho
  isplitl [HsI]; · iexists _; iexact HsI
  isplitl [HsP]; · iexists _; iexact HsP
  isplitl [HsZ]; · iexists _; iexact HsZ
  isplitl [HsB]; · iexact HsB
  isplitl [HsO]; · iexists _; iexact HsO
  isplitl [Hd5]; · iexact Hd5
  isplitl [Hd0]; · iexact Hd0
  isplitl [Hd1]; · iexact Hd1
  isplitl [Hd2]; · iexact Hd2
  isplitl [Hd3]; · iexact Hd3
  iexists _; isplitr
  swap; · iexact HO
  ipureintro; intro p hp
  rcases Finset.mem_insert.mp hp with hp | hp; · exact .inr (hp ▸ rfl)
  rcases hW2 p hp with hp | hp
  · exact hW p hp
  · exact .inr hp

end Cert.KernelIdeal.Pool

end
-- ==== Proof.Launch.lean ====
module

public import proofs.«01_k».proof.Proof.Tile

@[expose] public section

/-!
  The launch: the arrays are cut into thirty-two tiles' parts, a tile's task is its run, and @main reshapes the lists,
  starts the call and is left with the array of results.
-/

noncomputable section

namespace Cert.KernelIdeal.Pool

open Cert.KernelIdeal Cert.KernelIdeal.Gen
open Cert.Pool

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type} [FloatOps F]

local notation "𝕄" => MT nD τ sig (HIx 1) (Elt F) ℕ UU ℕ

local notation "iV" => (Memref.whole Cert.KernelIdeal.main_v0_scv : Memref Cert.KernelIdeal.sig Kind.scVector Space.hbm Cert.KernelIdeal.S16384x50 EltTy.i32)
local notation "pV" => (Memref.whole Cert.KernelIdeal.main_arg1_scv : Memref Cert.KernelIdeal.sig Kind.scVector Space.hbm Cert.KernelIdeal.S4096 EltTy.i32)
local notation "tV" => (Memref.whole Cert.KernelIdeal.main_arg2_scv : Memref Cert.KernelIdeal.sig Kind.scVector Space.hbm Cert.KernelIdeal.S100002x128 EltTy.f32)
local notation "oV" => (Memref.whole Cert.KernelIdeal.main_v1_scv : Memref Cert.KernelIdeal.sig Kind.scVector Space.hbm Cert.KernelIdeal.S4096x256 EltTy.f32)
local notation "sI" => (Memref.whole Cert.KernelIdeal.cc0_scratch0 : Memref Cert.KernelIdeal.sig Kind.scVector Space.vmem Cert.KernelIdeal.S512x50 EltTy.i32)
local notation "sP" => (Memref.whole Cert.KernelIdeal.cc0_scratch1 : Memref Cert.KernelIdeal.sig Kind.scVector Space.vmem Cert.KernelIdeal.S128 EltTy.i32)
local notation "sZ" => (Memref.whole Cert.KernelIdeal.cc0_scratch2 : Memref Cert.KernelIdeal.sig Kind.scVector Space.vmem Cert.KernelIdeal.S1x128 EltTy.f32)
local notation "sB" => (Memref.whole Cert.KernelIdeal.cc0_scratch3 : Memref Cert.KernelIdeal.sig Kind.scVector Space.vmem Cert.KernelIdeal.S50x128 EltTy.f32)
local notation "sO" => (Memref.whole Cert.KernelIdeal.cc0_scratch4 : Memref Cert.KernelIdeal.sig Kind.scVector Space.vmem Cert.KernelIdeal.S128x256 EltTy.f32)

variable (m : (ℓ : Loc nD τ sig) → Buf (Elt F) ℓ) (ρ : Dev nD → PrngReg)

abbrev aLoc (d : Dev nD) : Loc nD τ sig := (SparseCore.T d).loc main_arg0
abbrev pLoc (d : Dev nD) : Loc nD τ sig := (SparseCore.T d).loc main_arg1
abbrev tLoc (d : Dev nD) : Loc nD τ sig := (SparseCore.T d).loc main_arg2
abbrev iLoc (d : Dev nD) : Loc nD τ sig := (SparseCore.T d).loc main_v0
abbrev oLoc (d : Dev nD) : Loc nD τ sig := (SparseCore.T d).loc main_v1

/-- The lists as @main reshapes them: rows of fifty. -/
def fiOf (d : Dev nD) : Buf (Elt F) (iLoc d) := fun y => shapeCast S16384x50 (m (aLoc d)) shapeCasts_S4096x200_S16384x50 y
/-- The array of results of the launch memory. -/
def outOf (d : Dev nD) : Buf (Elt F) (oLoc d) := outArr (fiOf m d) (m (pLoc d)) (m (tLoc d))

theorem idiv : 32 ∣ S16384x50.size 0 := ⟨512, rfl⟩
theorem pdiv : 32 ∣ S4096.size 0 := ⟨128, rfl⟩
theorem odiv : 32 ∣ S4096x256.size 0 := ⟨128, rfl⟩
abbrev iPart (w : Fin 32) : Finset S16384x50.Idx := (Rect.part (s := S16384x50) (a₀ := 0) idiv w).set
abbrev pPart (w : Fin 32) : Finset S4096.Idx := (Rect.part (s := S4096) (a₀ := 0) pdiv w).set
abbrev oPart (w : Fin 32) : Finset S4096x256.Idx := (Rect.part (s := S4096x256) (a₀ := 0) odiv w).set
/-- Tile `w`'s share of the table. -/
abbrev tq (w : Fin 32) : PosShare TreeShare := Idealize.ShloMosaic.pieceOf fullShare 32 (by decide) w

/-- A tile's part of the arrays, its results at `f`. -/
def tileR (d : Dev nD) (f : Buf (Elt F) (oLoc d)) (w : Fin 32) : sProp 𝕄 :=
  iprop((iLoc d ↦[iPart w]{fullShare} fiOf m d) ∗ (pLoc d ↦[pPart w]{fullShare} m (pLoc d)) ∗ (tLoc d ↦{tq w} m (tLoc d)) ∗ (oLoc d ↦[oPart w]{fullShare} f))

/-- The tile of SparseCore `c`'s subcore `i`. -/
def wOf (c i : ℕ) (h : c < 2 ∧ i < 16) : Fin 32 := ⟨c + 2 * i, by omega⟩
theorem wOf_core (c : Fin ((K (F := F)).nCore 0)) (i : Fin ((K (F := F)).nSub 0)) : c.val < 2 ∧ i.val < 16 := ⟨c.isLt, i.isLt⟩

/-- What the handshakes carry: each SparseCore its sixteen tiles' parts, each tile its own; back come the results in their place. -/
def P : (K (F := F)).Pay (nD := nD) (Val := Elt F) (Name := ℕ) (U := UU) where
  st := fun q d c => match q with | 0 => bigSep Finset.univ fun i : Fin ((K (F := F)).nSub 0) => tileR m d (m (oLoc d)) (wOf c.val i.val (wOf_core (F := F) c i))
  dn := fun q d c => match q with | 0 => bigSep Finset.univ fun i : Fin ((K (F := F)).nSub 0) => tileR m d (outOf m d) (wOf c.val i.val (wOf_core (F := F) c i))
  go := fun q d c i => match q with | 0 => tileR m d (m (oLoc d)) (wOf c.val i.val (wOf_core (F := F) c i))
  td := fun q d c i => match q with | 0 => tileR m d (outOf m d) (wOf c.val i.val (wOf_core (F := F) c i))
  x := fun _ _ => iprop(emp)

instance tileR_storable (d : Dev nD) (f : Buf (Elt F) (oLoc d)) (w : Fin 32) : BI.Storable (upEmb : UEmb _ 𝕄) (tileR m d f w) := by
  unfold tileR; infer_instance

instance P_storable : (P (F := F) m).IsStorable where
  st q d c := match q with
    | 0 => (inferInstance : BI.Storable (upEmb : UEmb _ 𝕄) (bigSep Finset.univ fun i : Fin ((K (F := F)).nSub 0) => tileR m d (m (oLoc d)) (wOf c.val i.val (wOf_core (F := F) c i))))
  dn q d c := match q with
    | 0 => (inferInstance : BI.Storable (upEmb : UEmb _ 𝕄) (bigSep Finset.univ fun i : Fin ((K (F := F)).nSub 0) => tileR m d (outOf m d) (wOf c.val i.val (wOf_core (F := F) c i))))
  go q d c i := match q with
    | 0 => tileR_storable m d (m (oLoc d)) (wOf c.val i.val (wOf_core (F := F) c i))
  td q d c i := match q with
    | 0 => tileR_storable m d (outOf m d) (wOf c.val i.val (wOf_core (F := F) c i))

/-- What the proof asks of the launch memory: every list word names a row of the table, every pad count is below 200. -/
def PreOK : Prop := (∀ (d : Dev nD) (j : S4096x200.Idx), (m (aLoc d) j).toNat < 100002) ∧ ∀ (d : Dev nD) (j : S4096.Idx), (m (pLoc d) j).toNat < 200

section Task

variable (d : Dev nD) (L : grid0.Coords)

omit [FloatOps F] in
theorem bound_zero : grid0.bound 0 = 2 := rfl
omit [FloatOps F] in
theorem bound_one : grid0.bound 1 = 16 := rfl
theorem wF_lt : (L 0).val < 2 ∧ (L 1).val < 16 := ⟨(L 0).isLt, (L 1).isLt⟩
/-- The tile's number among thirty-two. -/
abbrev wF : Fin 32 := wOf (L 0).val (L 1).val (wF_lt L)

theorem iRect_eq : Rect.unit (s := S16384x50) (k0_off1 L) S512x50.size (k0_off1_inb L) = Rect.part (s := S16384x50) (a₀ := 0) idiv (wF L) := by
  unfold Rect.part Rect.block
  congr 1 <;> funext a
  · rw [k0_off1_eq]
    match a with
    | 0 => show 1024 * (L 1).val + 512 * (L 0).val = ((L 0).val + 2 * (L 1).val) * 512; omega
    | 1 => rfl
  · match a with
    | 0 => rfl
    | 1 => rfl
theorem pRect_eq : Rect.unit (s := S4096) (k0_off2 L) S128.size (k0_off2_inb L) = Rect.part (s := S4096) (a₀ := 0) pdiv (wF L) := by
  unfold Rect.part Rect.block
  congr 1 <;> funext a
  · rw [k0_off2_eq]
    match a with
    | 0 => show 256 * (L 1).val + 128 * (L 0).val = ((L 0).val + 2 * (L 1).val) * 128; omega
  · match a with
    | 0 => rfl
theorem oRect_eq : Rect.unit (s := S4096x256) (k0_off54 L) S128x256.size (k0_off54_inb L) = Rect.part (s := S4096x256) (a₀ := 0) odiv (wF L) := by
  unfold Rect.part Rect.block
  congr 1 <;> funext a
  · rw [k0_off54_eq]
    match a with
    | 0 => show 256 * (L 1).val + 128 * (L 0).val = ((L 0).val + 2 * (L 1).val) * 128; omega
    | 1 => rfl
  · match a with
    | 0 => rfl
    | 1 => rfl

theorem set_iSl : (iSl L).view.set = iPart (wF L) := by
  show ((View.whole (main_v0_scv : Ref sig .scVector)).slice _).set = _
  rw [View.set_slice, iRect_eq]; exact Finset.map_refl
theorem set_pSl : (pSl L).view.set = pPart (wF L) := by
  show ((View.whole (main_arg1_scv : Ref sig .scVector)).slice _).set = _
  rw [View.set_slice, pRect_eq]; exact Finset.map_refl
theorem set_oSl : (oSl L).view.set = oPart (wF L) := by
  show ((View.whole (main_v1_scv : Ref sig .scVector)).slice _).set = _
  rw [View.set_slice, oRect_eq]; exact Finset.map_refl

omit [FloatOps F] in
theorem pts_iSl (f : Buf (Elt F) (iLoc d)) :
    ((iSl L).view.loc (thr d L) ↦[(iSl L).view.set]{fullShare} f : sProp 𝕄) = iLoc d ↦[iPart (wF L)]{fullShare} f := by rw [set_iSl]
omit [FloatOps F] in
theorem pts_pSl (f : Buf (Elt F) (pLoc d)) :
    ((pSl L).view.loc (thr d L) ↦[(pSl L).view.set]{fullShare} f : sProp 𝕄) = pLoc d ↦[pPart (wF L)]{fullShare} f := by rw [set_pSl]
omit [FloatOps F] in
theorem pts_oSl (f : Buf (Elt F) (oLoc d)) :
    ((oSl L).view.loc (thr d L) ↦[(oSl L).view.set]{fullShare} f : sProp 𝕄) = oLoc d ↦[oPart (wF L)]{fullShare} f := by rw [set_oSl]
omit [FloatOps F] in
theorem pts_tV (q : PosShare TreeShare) (f : Buf (Elt F) (tLoc d)) :
    ((tV).view.loc (thr d L) ↦{q} f : sProp 𝕄) = tLoc d ↦{q} f := rfl

theorem cell_ne {a b : SemLoc sig} (h : a ≠ b) : ((thr d L, a) : GSem nD τ sig) ≠ (thr d L, b) := fun e => h (congrArg Prod.snd e)

omit [FloatOps F] in
/-- The five semaphores the task uses are among its own. -/
theorem ownSems0_V :
    (ownSems0 (thr d L) : sProp 𝕄)
      = iprop(semVal (thr d L, SemLoc.dma cc0_scratch5.sem) 0
          ∗ semVal (thr d L, SemLoc.dma cc0_scoped0.sem) 0
          ∗ semVal (thr d L, SemLoc.dma cc0_scoped1.sem) 0
          ∗ semVal (thr d L, SemLoc.dma cc0_scoped2.sem) 0
          ∗ semVal (thr d L, SemLoc.dma cc0_scoped3.sem) 0
          ∗ bigSep ((((((ownCells (thr d L)).erase (thr d L, SemLoc.dma cc0_scratch5.sem)).erase (thr d L, SemLoc.dma cc0_scoped0.sem)).erase (thr d L, SemLoc.dma cc0_scoped1.sem)).erase (thr d L, SemLoc.dma cc0_scoped2.sem)).erase (thr d L, SemLoc.dma cc0_scoped3.sem)) fun g => semVal g 0) := by
  unfold SparseCore.Cfg.ownSems0
  rw [SparseCore.bigSep_erase' ((mem_ownCells (g := (thr d L, SemLoc.dma cc0_scratch5.sem))).mpr ⟨rfl, (show (SemLoc.dma cc0_scratch5.sem : SemLoc sig).isScoped .scVector = true by decide)⟩),
    SparseCore.bigSep_erase' (Finset.mem_erase.mpr ⟨cell_ne d L (show (SemLoc.dma cc0_scoped0.sem : SemLoc sig) ≠ SemLoc.dma cc0_scratch5.sem by decide), (mem_ownCells (g := (thr d L, SemLoc.dma cc0_scoped0.sem))).mpr ⟨rfl, (show (SemLoc.dma cc0_scoped0.sem : SemLoc sig).isScoped .scVector = true by decide)⟩⟩),
    SparseCore.bigSep_erase' (Finset.mem_erase.mpr ⟨cell_ne d L (show (SemLoc.dma cc0_scoped1.sem : SemLoc sig) ≠ SemLoc.dma cc0_scoped0.sem by decide), Finset.mem_erase.mpr ⟨cell_ne d L (show (SemLoc.dma cc0_scoped1.sem : SemLoc sig) ≠ SemLoc.dma cc0_scratch5.sem by decide), (mem_ownCells (g := (thr d L, SemLoc.dma cc0_scoped1.sem))).mpr ⟨rfl, (show (SemLoc.dma cc0_scoped1.sem : SemLoc sig).isScoped .scVector = true by decide)⟩⟩⟩),
    SparseCore.bigSep_erase' (Finset.mem_erase.mpr ⟨cell_ne d L (show (SemLoc.dma cc0_scoped2.sem : SemLoc sig) ≠ SemLoc.dma cc0_scoped1.sem by decide), Finset.mem_erase.mpr ⟨cell_ne d L (show (SemLoc.dma cc0_scoped2.sem : SemLoc sig) ≠ SemLoc.dma cc0_scoped0.sem by decide), Finset.mem_erase.mpr ⟨cell_ne d L (show (SemLoc.dma cc0_scoped2.sem : SemLoc sig) ≠ SemLoc.dma cc0_scratch5.sem by decide), (mem_ownCells (g := (thr d L, SemLoc.dma cc0_scoped2.sem))).mpr ⟨rfl, (show (SemLoc.dma cc0_scoped2.sem : SemLoc sig).isScoped .scVector = true by decide)⟩⟩⟩⟩),
    SparseCore.bigSep_erase' (Finset.mem_erase.mpr ⟨cell_ne d L (show (SemLoc.dma cc0_scoped3.sem : SemLoc sig) ≠ SemLoc.dma cc0_scoped2.sem by decide), Finset.mem_erase.mpr ⟨cell_ne d L (show (SemLoc.dma cc0_scoped3.sem : SemLoc sig) ≠ SemLoc.dma cc0_scoped1.sem by decide), Finset.mem_erase.mpr ⟨cell_ne d L (show (SemLoc.dma cc0_scoped3.sem : SemLoc sig) ≠ SemLoc.dma cc0_scoped0.sem by decide), Finset.mem_erase.mpr ⟨cell_ne d L (show (SemLoc.dma cc0_scoped3.sem : SemLoc sig) ≠ SemLoc.dma cc0_scratch5.sem by decide), (mem_ownCells (g := (thr d L, SemLoc.dma cc0_scoped3.sem))).mpr ⟨rfl, (show (SemLoc.dma cc0_scoped3.sem : SemLoc sig).isScoped .scVector = true by decide)⟩⟩⟩⟩⟩)]

omit [FloatOps F] in
/-- The five scratch buffers are among the subcore's own. -/
theorem ownBufs_V :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩)]

set_option maxHeartbeats 1000000 in
/-- The task on a vector subcore, from its part of the arrays. -/
theorem tile_body (hF : (K (F := F)).Facts) (hpre : PreOK m) (O : CellTallies nD τ sig (HIx 1)) (W : Waits sig (HIx 1)) (hO : ∀ g, O g .none = 0) :
    iprop(levAts (K (F := F)).L (K (F := F)).lev ∗ emp ∗ tileR m d (m (oLoc d)) (wF L)
        ∗ scopedBufs (thr d L) ∗ scopedSems0 (thr d L) ∗ owes (thr d L) O W)
      ⊢ wp frame (wpE (defs₀ (F := F)) 𝒱₀ (thr d L) .none) Set.univ
          (cc0__pooler_body L iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3)
          fun _ => iprop(tileR m d (outOf m d) (wF L)
            ∗ scopedBufs (thr d L) ∗ scopedSems0 (thr d L)
            ∗ ∃ W', ⌜∀ p ∈ W', p ∈ W ∨ p.2 = .none⌝ ∗ owes (thr d L) O W') := by
  rw [(K (F := F)).scopedBufs_V hF d (cV L) (jV L), SparseCore.Cfg.scopedSems0_V (Val := Elt F) d (cV L) (jV L), ownSems0_V, ownBufs_V]
  unfold tileR
  iintro ⟨#Hlv, -, ⟨Hi, Hp, Ht, Ho⟩, ⟨H0, H1, H2, H3, H4, Hbufs⟩, ⟨Hs5, Hs0, Hs1, Hs2, Hs3, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iSl (F := F) d L _).symm) $$ Hi
  ihave Hp' := (Entails.of_eq (pts_pSl (F := F) d L _).symm) $$ Hp
  ihave Ho' := (Entails.of_eq (pts_oSl (F := F) d L _).symm) $$ Ho
  iapply (wp_wand _ _ _) $$ [Hmw Hi' Hp' Ht Ho' H0 H1 H2 H3 H4 Hs5 Hs0 Hs1 Hs2 Hs3 HO]
  · iapply (tile_run d L (tq (wF L)) (fiOf m d) (m (pLoc d)) (m (tLoc d)) (m (oLoc d)) O W (fun y => hpre.1 d _) (fun y => hpre.2 d y))
    isplitl [Hmw]; · iexact Hmw
    isplitl [Hi']; · iexact Hi'
    isplitl [Hp']; · iexact Hp'
    isplitl [Ht]; · iexact Ht
    isplitl [Ho']; · iexact Ho'
    isplitl [H0]; · iexact H0
    isplitl [H1]; · iexact H1
    isplitl [H2]; · iexact H2
    isplitl [H3]; · iexact H3
    isplitl [H4]; · iexact H4
    isplitl [Hs5]; · iexact Hs5
    isplitl [Hs0]; · iexact Hs0
    isplitl [Hs1]; · iexact Hs1
    isplitl [Hs2]; · iexact Hs2
    isplitl [Hs3]; · iexact Hs3
    iexact HO
  iintro %_ ⟨Hi', Hp', Ht, Ho', H0, H1, H2, H3, H4, Hs5, Hs0, Hs1, Hs2, Hs3, HO⟩
  isplitl [Hi' Hp' Ht Ho']
  · isplitl [Hi']; · iapply (Entails.of_eq (pts_iSl (F := F) d L _)); iexact Hi'
    isplitl [Hp']; · iapply (Entails.of_eq (pts_pSl (F := F) d L _)); iexact Hp'
    isplitl [Ht]; · iexact Ht
    iapply (Entails.of_eq (pts_oSl (F := F) d L _)); iexact Ho'
  isplitl [H0 H1 H2 H3 H4 Hbufs]
  · isplitl [H0]; · iexact H0
    isplitl [H1]; · iexact H1
    isplitl [H2]; · iexact H2
    isplitl [H3]; · iexact H3
    isplitl [H4]; · iexact H4
    iexact Hbufs
  isplitl [Hs5 Hs0 Hs1 Hs2 Hs3 Hsems]
  · isplitl [Hs5]; · iexact Hs5
    isplitl [Hs0]; · iexact Hs0
    isplitl [Hs1]; · iexact Hs1
    isplitl [Hs2]; · iexact Hs2
    isplitl [Hs3]; · iexact Hs3
    iexact Hsems
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__pooler_body (coordsV c s) iV (Memref.isWhole_whole _) pV (Memref.isWhole_whole _) tV (Memref.isWhole_whole _) oV (Memref.isWhole_whole _)
            sI (Memref.isWhole_whole _) sP (Memref.isWhole_whole _) sZ (Memref.isWhole_whole _) sB (Memref.isWhole_whole _) sO (Memref.isWhole_whole _)
            cc0_scratch5 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = .none⌝ ∗ owes thr O W')
      ⊢ iprop(A ∗ B ∗ C ∗ ∃ W', ⌜∀ p ∈ W', p ∈ W ∨ p.2 = .none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Task

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ .none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show (bigSep Finset.univ fun i : Fin ((K (F := F)).nSub 0) => tileR m d (m (oLoc d)) (wOf c.val i.val (wOf_core (F := F) c i))) ⊢ |={Set.univ}=> iprop(
      (bigSep Finset.univ fun i : Fin ((K (F := F)).nSub 0) => tileR m d (m (oLoc d)) (wOf c.val i.val (wOf_core (F := F) c i)))
      ∗ ((bigSep Finset.univ fun i : Fin ((K (F := F)).nSub 0) => tileR m d (outOf m d) (wOf c.val i.val (wOf_core (F := F) c i)))
          -∗ bigSep Finset.univ fun i : Fin ((K (F := F)).nSub 0) => tileR m d (outOf m d) (wOf c.val i.val (wOf_core (F := F) c i))))
  iintro H; imodintro
  isplitl [H]; · iexact H
  iintro H; iexact H

omit [FloatOps F] in
theorem iparts (d : Dev nD) (f : Buf (Elt F) (iLoc d)) :
    (iLoc d ↦{fullShare} f : sProp 𝕄) = bigSep Finset.univ fun w : Fin 32 => iLoc d ↦[iPart w]{fullShare} f := by
  rw [← pointsTo_biUnion Finset.univ (ℓ := iLoc d) iPart (fun _ _ _ _ h => Rect.part_disjoint idiv h), show (Finset.univ : Finset (Fin 32)).biUnion iPart = Finset.univ from Rect.biUnion_part idiv]; try rfl
omit [FloatOps F] in
theorem pparts (d : Dev nD) (f : Buf (Elt F) (pLoc d)) :
    (pLoc d ↦{fullShare} f : sProp 𝕄) = bigSep Finset.univ fun w : Fin 32 => pLoc d ↦[pPart w]{fullShare} f := by
  rw [← pointsTo_biUnion Finset.univ (ℓ := pLoc d) pPart (fun _ _ _ _ h => Rect.part_disjoint pdiv h), show (Finset.univ : Finset (Fin 32)).biUnion pPart = Finset.univ from Rect.biUnion_part pdiv]; try rfl
omit [FloatOps F] in
theorem oparts (d : Dev nD) (f : Buf (Elt F) (oLoc d)) :
    (oLoc d ↦{fullShare} f : sProp 𝕄) = bigSep Finset.univ fun w : Fin 32 => oLoc d ↦[oPart w]{fullShare} f := by
  rw [← pointsTo_biUnion Finset.univ (ℓ := oLoc d) oPart (fun _ _ _ _ h => Rect.part_disjoint odiv h), show (Finset.univ : Finset (Fin 32)).biUnion oPart = Finset.univ from Rect.biUnion_part odiv]; try rfl

/-- The four arrays the call takes are the thirty-two tiles' parts. -/
theorem allTiles (d : Dev nD) (f : Buf (Elt F) (oLoc d)) :
    (bigSep Finset.univ fun w : Fin 32 => tileR m d f w)
      = iprop((iLoc d ↦{fullShare} fiOf m d) ∗ (pLoc d ↦{fullShare} m (pLoc d)) ∗ (tLoc d ↦{fullShare} m (tLoc d)) ∗ (oLoc d ↦{fullShare} f)) := by
  rw [iparts, pparts, oparts, Idealize.ShloMosaic.pointsTo_piecesOf Finset.univ (m (tLoc d)) (show 0 < 32 by decide) fullShare,
    ← bigSep_sep', ← bigSep_sep', ← bigSep_sep']
  rfl

/-- A tile is a SparseCore and a subcore. -/
def tileEquiv : Fin 2 × Fin 16 ≃ Fin 32 where
  toFun p := wOf p.1.val p.2.val ⟨p.1.isLt, p.2.isLt⟩
  invFun w := (⟨w.val % 2, by omega⟩, ⟨w.val / 2, by omega⟩)
  left_inv p := Prod.ext (Fin.ext (show (p.1.val + 2 * p.2.val) % 2 = p.1.val by omega)) (Fin.ext (show (p.1.val + 2 * p.2.val) / 2 = p.2.val by omega))
  right_inv w := Fin.ext (show w.val % 2 + 2 * (w.val / 2) = w.val by omega)

omit [FloatOps F] in
theorem coreTiles (Φ : Fin 32 → sProp 𝕄) :
    (bigSep Finset.univ fun c : Fin 2 => bigSep Finset.univ fun i : Fin 16 => Φ (wOf c.val i.val ⟨c.isLt, i.isLt⟩)) = bigSep Finset.univ Φ := by
  rw [bigSep_univ_equiv tileEquiv Φ, ← Finset.univ_product_univ, SparseCore.bigSep_product]
  rfl

theorem st0_eq (d : Dev nD) : (bigSep Finset.univ fun c : Fin ((K (F := F)).nCore 0) => (P m).st 0 d c)
    = iprop((iLoc d ↦{fullShare} fiOf m d) ∗ (pLoc d ↦{fullShare} m (pLoc d)) ∗ (tLoc d ↦{fullShare} m (tLoc d)) ∗ (oLoc d ↦{fullShare} m (oLoc d))) :=
  (coreTiles (tileR m d (m (oLoc d)))).trans (allTiles m d _)
theorem dn0_eq (d : Dev nD) : (bigSep Finset.univ fun c : Fin ((K (F := F)).nCore 0) => (P m).dn 0 d c)
    = iprop((iLoc d ↦{fullShare} fiOf m d) ∗ (pLoc d ↦{fullShare} m (pLoc d)) ∗ (tLoc d ↦{fullShare} m (tLoc d)) ∗ (oLoc d ↦{fullShare} outOf m d)) :=
  (coreTiles (tileR m d (outOf m d))).trans (allTiles m d _)

def u₀ : UU := (Rounds.initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (Rounds.initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (Rounds.initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

abbrev a' : DevRef τ sig := Proc.devRef .tc (main_arg0 : Ref sig .tc)
abbrev p' : DevRef τ sig := Proc.devRef .tc (main_arg1 : Ref sig .tc)
abbrev t' : DevRef τ sig := Proc.devRef .tc (main_arg2 : Ref sig .tc)
abbrev i' : DevRef τ sig := Proc.devRef .tc (main_v0 : Ref sig .tc)
abbrev o' : DevRef τ sig := Proc.devRef .tc (main_v1 : Ref sig .tc)
abbrev opR : HloOp τ sig (Elt F) := StableHlo.reshape main_arg0 main_v0 (rfl : (.i32 : EltTy) = .i32) shapeCasts_S4096x200_S16384x50
/-- @main's arrays. -/
abbrev S5 : Finset (DevRef τ sig) := {a', p', t', i', o'}

omit [FloatOps F] in
theorem held_S5 (d : Dev nD) (W : Valuation τ sig (Elt F)) :
    (held (T d) S5 W : sProp 𝕄) = iprop((aLoc d ↦{fullShare} W a') ∗ (pLoc d ↦{fullShare} W p') ∗ (tLoc d ↦{fullShare} W t')
      ∗ (iLoc d ↦{fullShare} W i') ∗ (oLoc d ↦{fullShare} W o')) := by
  unfold held S5
  rw [SparseCore.bigSep_insert' (by decide), SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (pLoc d ↦{fullShare} W main_arg1) ∗ (tLoc d ↦{fullShare} W main_arg2)
      ∗ (iLoc d ↦{fullShare} W main_v0) ∗ (oLoc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide), bigSep_singleton]

def V0 (d : Dev nD) : Valuation τ sig (Elt F) := fun b => m (d, b)
omit [FloatOps F] in
theorem unscoped_held (d : Dev nD) : (unscopedBufs d (fun b => m ((SparseCore.T d).loc b)) : sProp 𝕄) = held (T d) S5 (V0 m d) := by
  rw [unscopedBufs_eq, held_S5]; rfl

theorem hop : (opR (F := F)).bufs ⊆ S5 := show ({a', i'} : Finset (DevRef τ sig)) ⊆ S5 by decide

theorem V1_i (d : Dev nD) : (opR (F := F)).result (V0 m d) i' = fiOf m d :=
  StableHlo.reshape_result main_arg0 main_v0 rfl shapeCasts_S4096x200_S16384x50 _ _ (V0 m d)

/-- The arrays after the reshape. -/
theorem held_V1 (d : Dev nD) : (held (T d) S5 ((opR (F := F)).result (V0 m d)) : sProp 𝕄)
    = iprop((aLoc d ↦{fullShare} m (aLoc d)) ∗ (pLoc d ↦{fullShare} m (pLoc d)) ∗ (tLoc d ↦{fullShare} m (tLoc d))
      ∗ (iLoc d ↦{fullShare} fiOf m d) ∗ (oLoc d ↦{fullShare} m (oLoc d))) := by
  rw [held_S5, V1_i,
    (opR (F := F)).result_of_not_mem (V0 m d) (b := a') (show a' ∉ ({i'} : Finset (DevRef τ sig)) by decide),
    (opR (F := F)).result_of_not_mem (V0 m d) (b := p') (show p' ∉ ({i'} : Finset (DevRef τ sig)) by decide),
    (opR (F := F)).result_of_not_mem (V0 m d) (b := t') (show t' ∉ ({i'} : Finset (DevRef τ sig)) by decide),
    (opR (F := F)).result_of_not_mem (V0 m d) (b := o') (show o' ∉ ({i'} : Finset (DevRef τ sig)) by decide)]
  rfl

/-- What @main leaves: the arguments as they were, the results in their array. -/
abbrev FIN (d : Dev nD) : sProp 𝕄 :=
  iprop((aLoc d ↦{fullShare} m (aLoc d)) ∗ (pLoc d ↦{fullShare} m (pLoc d)) ∗ (tLoc d ↦{fullShare} m (tLoc d)) ∗ (oLoc d ↦{fullShare} outOf m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) .none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) .none Set.univ (op := opR) (S := S5) hop (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha, Hp, Ht, Hi, Ho⟩
  rw [wp_ret]; imodintro
  iapply ((K (F := F)).wp_run (D (F := F)) 𝒱 (EH := EH) (P := P m) κ d 0) $$ [Hst Ha Hi Hp Ht Ho Hb Hts]
  isplitr; · iexact Hctx
  isplitl [Hst]; · iexact Hst
  isplitl [Hi Hp Ht Ho]
  · rw [st0_eq]
    isplitl [Hi]; · iexact Hi
    isplitl [Hp]; · iexact Hp
    isplitl [Ht]; · iexact Ht
    iexact Ho
  iintro ⟨Hst, Hdn⟩
  ihave Hdn' := (Entails.of_eq (dn0_eq m d)) $$ Hdn
  icases Hdn' with ⟨-, Hp, Ht, Ho⟩
  imodintro
  isplitl [Hst]; · iexact Hst
  isplitr [Hb Hts]
  · isplitl [Ha]; · iexact Ha
    isplitl [Hp]; · iexact Hp
    isplitl [Ht]; · iexact Ht
    iexact Ho
  isplitl [Hb] <;> iassumption

def fq (d : Dev nD) (s' : Phys nD τ sig (Elt F)) : Prop :=
  s'.mem.mem (aLoc d) = m (aLoc d) ∧ s'.mem.mem (pLoc d) = m (pLoc d) ∧ s'.mem.mem (tLoc d) = m (tLoc d) ∧ s'.mem.mem (oLoc d) = outOf m d

set_option maxRecDepth 16384 in
theorem hfin (d : Dev nD) (s' : Phys nD τ sig (Elt F)) : iprop(FIN m d ∗ SI s') ⊢ (⌜fq m d s'⌝ : sProp 𝕄) := by
  iintro ⟨⟨Ha, Hp, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := pLoc d) (I := Finset.univ) (q := fullShare) (f := m (pLoc d)))) $$ [HSI Hp]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := oLoc d) (I := Finset.univ) (q := fullShare) (f := outOf m d)) $$ [HSI Ho]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-- Every run ends with the arguments as they were and the results at `outOf`. -/
def QC : PUnit × MemSt nD τ sig (Elt F) → Prop := fun r =>
  (∀ c : Dev nD, r.2.mem (aLoc c) = m (aLoc c) ∧ r.2.mem (pLoc c) = m (pLoc c) ∧ r.2.mem (tLoc c) = m (tLoc c) ∧ r.2.mem (oLoc c) = outOf m c)
    ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pool

end
-- ==== Proof.Drawn.lean ====
module

public import proofs.«01_k».proof.Defs
public import proofs.«01_k».proof.Proof.Model
public import Idealize.ShloMosaic.Lib.ReduceAll
public import Idealize.ShloMosaic.Lib.Pipeline.Value
public import Idealize.ShloMosaic.Lib.Tactic

@[expose] public section

/-!
  What the two preconditions say of the arguments: every list word is below 100000 and every pad count is below 200; and,
  of the second, every entry of the table's padding row is below plus infinity in absolute value.
-/

noncomputable section

namespace Cert.Pool

open Idealize.ShloMosaic

instance : Subsingleton (⟨0, ![]⟩ : Shape).Idx := ⟨fun _ _ => funext fun a => a.elim0⟩

/-- A word between zero and a small bound, as signed words, is its own value below the bound. -/
theorem word_lt {v : BitVec 32} {n : ℕ} (hn : n < 2147483648)
    (e : IntOp.andi (IntOp.cmpi .sge v 0#32) (IntOp.cmpi .slt v (BitVec.ofNat 32 n)) = 1#1) : v.toNat < n := by
  obtain ⟨h0, h1⟩ := IntOp.andi_eq_one.1 e
  have h0 := IntOp.cmpi_sge.1 h0
  have h1 := IntOp.cmpi_slt.1 h1
  rw [BitVec.toInt_eq_toNat_cond] at h0 h1
  rw [BitVec.toInt_eq_toNat_cond] at h0 h1
  simp only [BitVec.toNat_ofNat, Nat.reducePow] at h0 h1
  rw [Nat.mod_eq_of_lt (by omega : n < 4294967296)] at h1
  have := v.isLt
  split_ifs at h0 h1 <;> omega

variable {F : FTy → Type} [FloatOps F]

/-- The ranges. -/
theorem ranges_parts [Cert.Pre_ranges.Facts] {x0 : IVec Cert.Pre_ranges.S4096x200 32} {x1 : IVec Cert.Pre_ranges.S4096 32}
    {x2 : FVec F Cert.Pre_ranges.S100002x128 .f32} (h : Cert.Pre_ranges.fn (F := F) x0 x1 x2 = fun _ => 1#1) :
    (∀ j, (x0 j).toNat < 100000) ∧ ∀ j, (x1 j).toNat < 200 := by
  have e := congrFun h (fun a => a.elim0)
  unfold Cert.Pre_ranges.fn at e
  obtain ⟨e0, e1⟩ := IntOp.andi_eq_one.1 e
  exact ⟨fun j => word_lt (by decide) (Host.reduce_andi_all _ _ _ _ _ e0 j), fun j => word_lt (by decide) (Host.reduce_andi_all _ _ _ _ _ e1 j)⟩

/-- Column `x` of the padding row, as an index of the slice. -/
abbrev padCol (x : ℕ) : Cert.Pre_drawn.S1x128.Idx := fun a => match a with
  | ⟨0, _⟩ => ⟨0, Nat.one_pos⟩
  | ⟨1, _⟩ => Fin.ofNat 128 x

/-- Column `x`, as an index of a row. -/
abbrev col (x : ℕ) : Cert.Pre_drawn.S128.Idx := fun a => match a with
  | ⟨0, _⟩ => Fin.ofNat 128 x

/-- The ranges, and the padding row. -/
theorem drawn_parts [Cert.Pre_drawn.Facts] {x0 : IVec Cert.Pre_drawn.S4096x200 32} {x1 : IVec Cert.Pre_drawn.S4096 32}
    {x2 : FVec F Cert.Pre_drawn.S100002x128 .f32} (h : Cert.Pre_drawn.fn (F := F) x0 x1 x2 = fun _ => 1#1) :
    (∀ j, (x0 j).toNat < 100000) ∧ (∀ j, (x1 j).toNat < 200)
      ∧ ∀ x, FloatOps.cmpf (F := F) .olt (FloatOps.hostAbsf (tabAt x2 100001 x)) (FloatOps.ofBits .f32 0x7F800000#32) = 1#1 := by
  have e := congrFun h (fun a => a.elim0)
  unfold Cert.Pre_drawn.fn Cert.Pre_drawn.fn_part1 at e
  obtain ⟨e, e2⟩ := IntOp.andi_eq_one.1 e
  obtain ⟨e0, e1⟩ := IntOp.andi_eq_one.1 e
  refine ⟨fun j => word_lt (by decide) (Host.reduce_andi_all _ _ _ _ _ e0 j),
    fun j => word_lt (by decide) (Host.reduce_andi_all _ _ _ _ _ e1 j), fun x => ?_⟩
  have ex := Host.reduce_andi_all _ _ _ _ _ e2 (col x)
  have er : shapeCast Cert.Pre_drawn.S128 (extractStridedSlice Cert.Pre_drawn.S1x128 ![100001, 0] x2
        Cert.Pre_drawn.Facts.slices_S100002x128_S1x128_100001_0) Cert.Pre_drawn.Facts.shapeCasts_S1x128_S128 (col x)
      = tabAt x2 100001 x := by
    rw [shapeCast_apply _ _ _ (padCol x) (by
      rw [Shape.rowMajor_val_two, Shape.rowMajor_val_one]
      show 0 * 128 + x % 128 = x % 128
      omega)]
    exact extractStridedSlice_apply _ _ _ _ _ fun a => match a with
      | 0 => rfl
      | 1 => (Nat.zero_add _).symm
  rw [← er]
  exact ex

end Cert.Pool

end
-- ==== Proof.Frames.lean ====
module

public import proofs.«01_k».proof.Proof.Launch
public import proofs.«01_k».proof.Proof.Drawn
public import proofs.«01_k».proof.Proof.Gen.Pre_drawn
public import proofs.«01_k».proof.Proof.Gen.Pre_ranges
public import proofs.«01_k».proof.Proof.Gen.Kernel

@[expose] public section

/-!
  The frames of the kernel: its run (Launch), from each precondition.
-/

noncomputable section

namespace Cert.Pool

open Idealize.ShloMosaic Idealize.SL.Sem

/-- The launch's condition, from the ranges. -/
theorem ok_of_words {F : FTy → Type} [FloatOps F]
    (m : (ℓ : Loc Cert.KernelIdeal.nD Cert.KernelIdeal.τ Cert.KernelIdeal.sig) → Buf (Elt F) ℓ)
    (h : ∀ d : Dev Cert.KernelIdeal.nD, (∀ j, (m (Cert.KernelIdeal.Pool.aLoc d) j).toNat < 100000)
      ∧ ∀ j, (m (Cert.KernelIdeal.Pool.pLoc d) j).toNat < 200) : Cert.KernelIdeal.Pool.PreOK m :=
  ⟨fun d j => Nat.lt_of_lt_of_le ((h d).1 j) (by decide), fun d j => (h d).2 j⟩

theorem frame_ideal : Cert.quiescent_KernelIdeal := fun m g h =>
  (θ_run Cert.KernelIdeal.defs _ _).mono (fun _ r => ⟨fun c => ⟨(r.1 c).1, (r.1 c).2.1, (r.1 c).2.2.1⟩, r.2⟩)
    (Cert.KernelIdeal.Pool.run_main (F := Ideal) m g (ok_of_words m fun d => ranges_parts (h d)))

theorem frame_ideal_drawn : Cert.quiescent_KernelIdeal_pre_drawn := fun m g h =>
  (θ_run Cert.KernelIdeal.defs _ _).mono (fun _ r => ⟨fun c => ⟨(r.1 c).1, (r.1 c).2.1, (r.1 c).2.2.1⟩, r.2⟩)
    (Cert.KernelIdeal.Pool.run_main (F := Ideal) m g (ok_of_words m fun d => ⟨(drawn_parts (h d)).1, (drawn_parts (h d)).2.1⟩))

set_option maxRecDepth 100000 in
/-- The kernel as printed is the same program text, read at words. -/
theorem frame_bits : Cert.quiescent_Kernel := fun m g h =>
  (θ_run Cert.KernelIdeal.defs _ _).mono (fun _ r => ⟨fun c => ⟨(r.1 c).1, (r.1 c).2.1, (r.1 c).2.2.1⟩, r.2⟩)
    (Cert.KernelIdeal.Pool.run_main (F := Bits) m g (ok_of_words (F := Bits) m fun d => ranges_parts (h d)))

end Cert.Pool

end
-- ==== Proof.RefRows.lean ====
module

public import proofs.«01_k».proof.Proof.Model
public import proofs.«01_k».proof.Proof.Gen.ReferenceIdeal.Read
public import Idealize.ShloMosaic.Lib.ReduceAll
public import Idealize.ShloMosaic.Lib.WordCmp

@[expose] public section

/-!
  The rows the reference takes from the table: at a valid position the list's word's row, at any other the padding row.
-/

noncomputable section

namespace Cert.Pool

open Idealize.ShloMosaic Cert.ReferenceIdeal Cert.ReferenceIdeal.Gen Cert.ReferenceIdeal.Read

variable {F : FTy → Type} [FloatOps F]

/-- The position's sequence, as an index of the pad counts. -/
abbrev seqOf (i : S4096x200.Idx) : S4096.Idx := idx_main_v4 (idx_main_v6 i)

variable (x0 : (⟨S4096x200, .i32⟩ : BufTy).Contents (Elt F)) (x1 : (⟨S4096, .i32⟩ : BufTy).Contents (Elt F))
  (x2 : (⟨S100002x128, .f32⟩ : BufTy).Contents (Elt F))

/-- Two hundred less a pad count below two hundred, as a word. -/
theorem sub_toNat {p : BitVec 32} (h : p.toNat < 200) : (IntOp.subi 200#32 p).toNat = 200 - p.toNat := by
  show (200#32 - p).toNat = _
  rw [BitVec.toNat_sub]
  simp only [BitVec.toNat_ofNat]
  omega

/-- A position is valid when it is before two hundred less the pad count. -/
theorem valid_eq (h1 : ∀ j, (x1 j).toNat < 200) (i : S4096x200.Idx) :
    val_main_v7 (F := F) x1 i = BitVec.ofBool (decide ((i 1).val < 200 - (x1 (seqOf i)).toNat)) := by
  have hi : (i 1).val < 200 := (i 1).isLt
  have hb : BitVec.toNat (BitVec.ofNat 32 (i 1).val) = (i 1).val := by rw [BitVec.toNat_ofNat]; omega
  have hs := sub_toNat (h1 (seqOf i))
  rw [val_main_v7_apply, val_main_v5_apply, val_main_v1_apply, val_main_v0_apply, val_main_v6_apply, val_main_v4_apply,
    val_main_v3_apply, val_main_v2_apply, val_main_c_apply]
  show IntOp.cmpi .slt (BitVec.ofNat 32 (i 1).val) (IntOp.subi 200#32 (x1 (seqOf i))) = _
  rw [WordCmp.cmpi_slt_of_lt (by rw [hb]; omega) (by rw [hs]; omega), hb, hs]

/-- The row's number. -/
theorem id_nat (h1 : ∀ j, (x1 j).toNat < 200) (i : S4096x200.Idx) :
    (val_main_v8 (F := F) x0 x1 i).toNat = if (i 1).val < 200 - (x1 (seqOf i)).toNat then (x0 i).toNat else 100001 := by
  rw [val_main_v8_apply, valid_eq x1 h1, val_main_call0_v1_apply, val_main_call0_v0_apply, val_main_c_0_apply]
  split
  · next h => rw [decide_eq_true h]; rfl
  · next h => rw [decide_eq_false h]; rfl

/-- The row's number is a row of the table. -/
theorem id_lt (h0 : ∀ j, (x0 j).toNat < 100000) (h1 : ∀ j, (x1 j).toNat < 200) (i : S4096x200.Idx) :
    (val_main_v8 (F := F) x0 x1 i).toNat < 100002 := by
  rw [id_nat x0 x1 h1]
  split
  · have := h0 i; omega
  · omega

/-- A row's number is not negative, so it is not moved. -/
theorem start_eq (h0 : ∀ j, (x0 j).toNat < 100000) (h1 : ∀ j, (x1 j).toNat < 200) (i : S4096x200.Idx) :
    val_main_call1_v4 (F := F) x0 x1 i = val_main_v8 (F := F) x0 x1 i := by
  have h := id_lt (F := F) x0 x1 h0 h1 i
  rw [val_main_call1_v4_apply, val_main_call1_v1_apply, val_main_call1_v0_apply, val_main_call1_c_apply, WordCmp.cmpi_slt_zero,
    decide_eq_false (by omega)]
  rfl

/-- Every row's number passes the range check. -/
theorem inRange (h0 : ∀ j, (x0 j).toNat < 100000) (h1 : ∀ j, (x1 j).toNat < 200) (j : S4096x200.Idx) :
    val_main_call1_v12 (F := F) x0 x1 j = 1#1 := by
  refine Host.reduce_andi_one _ _ _ _ j rfl fun i => ?_
  rw [val_main_call1_v11_apply, val_main_call1_v7_apply, val_main_call1_v10_apply, val_main_call1_v5_apply, start_eq x0 x1 h0 h1]
  have h := id_lt (F := F) x0 x1 h0 h1 (idx_main_call1_v5 i)
  rw [val_main_call1_v6_apply, val_main_call1_c_2_apply, val_main_call1_v9_apply, val_main_call1_v8_apply, val_main_call1_c_1_apply,
    WordCmp.cmpi_sge_zero, WordCmp.cmpi_sle_of_lt (by omega) (by decide), decide_eq_true (by omega),
    decide_eq_true (by rw [show (100001#32 : BitVec 32).toNat = 100001 from rfl]; omega)]
  rfl

/-- The position a gathered element's row number is at. -/
abbrev posOf (j : S4096x200x128.Idx) : S4096x200x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The gather at an element: the row its position's number names, the element's own column. -/
theorem gather_at (w : IVec S4096x200x1 32) (j : S4096x200x128.Idx) (h : (w (posOf j)).toNat < 100002) :
    Host.gather gather_S100002x128_S4096x200x1_S4096x200x128_2_0_n_n_0_2_1128 x2 w j = tabAt x2 (w (posOf j)).toNat (j 2).val := by
  unfold Host.gather
  refine at2_eq x2 _ ?_ ?_
  · show GatherDims.start gather_S100002x128_S4096x200x1_S4096x200x128_2_0_n_n_0_2_1128 j w (0 : Fin 2) + GatherDims.batchCoord gather_S100002x128_S4096x200x1_S4096x200x128_2_0_n_n_0_2_1128 j (0 : Fin 2) + GatherDims.offCoord gather_S100002x128_S4096x200x1_S4096x200x128_2_0_n_n_0_2_1128 j (0 : Fin 2) = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ GatherDims.startIndexMap gather_S100002x128_S4096x200x1_S4096x200x128_2_0_n_n_0_2_1128
      from List.mem_singleton.mpr rfl)]
    have hp : GatherDims.siIdx gather_S100002x128_S4096x200x1_S4096x200x128_2_0_n_n_0_2_1128 j ⟨0, Nat.one_pos⟩ = posOf j := by
      funext b
      refine Fin.ext ?_
      match b with
      | ⟨0, _⟩ => rfl
      | ⟨1, _⟩ => rfl
      | ⟨2, _⟩ => rfl
    show min (w (GatherDims.siIdx gather_S100002x128_S4096x200x1_S4096x200x128_2_0_n_n_0_2_1128 j ⟨0, Nat.one_pos⟩)).toInt.toNat 100001 = _
    rw [hp, BitVec.toInt_eq_toNat_of_lt (by omega)]
    simp only [Int.toNat_natCast]
    omega
  · show GatherDims.start gather_S100002x128_S4096x200x1_S4096x200x128_2_0_n_n_0_2_1128 j w (1 : Fin 2) + GatherDims.batchCoord gather_S100002x128_S4096x200x1_S4096x200x128_2_0_n_n_0_2_1128 j (1 : Fin 2) + GatherDims.offCoord gather_S100002x128_S4096x200x1_S4096x200x128_2_0_n_n_0_2_1128 j (1 : Fin 2) = _
    rw [GatherDims.batchCoord_eq_zero _ _ _ List.not_mem_nil]
    unfold GatherDims.start
    rw [dif_neg (show (1 : Fin 2) ∉ GatherDims.startIndexMap gather_S100002x128_S4096x200x1_S4096x200x128_2_0_n_n_0_2_1128
      from by decide)]
    simp only [Nat.zero_add, Nat.add_zero]
    unfold GatherDims.offCoord
    rw [dif_pos (show (1 : Fin 2) ∈ GatherDims.sKept gather_S100002x128_S4096x200x1_S4096x200x128_2_0_n_n_0_2_1128
      from by decide)]
    rfl

/-- The reference's row `t` of sequence `b`. -/
def refRow (b t x : ℕ) : F .f32 :=
  if t < 200 - (padAt x1 b).toNat then tabAt x2 (at2 x0 b t).toNat x else tabAt x2 100001 x

/-- What the reference takes at an element. -/
theorem taken (h0 : ∀ j, (x0 j).toNat < 100000) (h1 : ∀ j, (x1 j).toNat < 200) (j : S4096x200x128.Idx) :
    val_main_v9 (F := F) x0 x1 x2 j = refRow x0 x1 x2 (j 0).val (j 1).val (j 2).val := by
  have e : val_main_call1_v5 (F := F) x0 x1 (posOf j) = val_main_v8 (F := F) x0 x1 (idx_main_call1_v5 (posOf j)) := by
    rw [val_main_call1_v5_apply, start_eq x0 x1 h0 h1]
  have hl : (val_main_call1_v5 (F := F) x0 x1 (posOf j)).toNat < 100002 := by rw [e]; exact id_lt x0 x1 h0 h1 _
  rw [val_main_v9_apply, val_main_call1_v14_apply, inRange x0 x1 h0 h1]
  show val_main_call1_v13 (F := F) x0 x1 x2 j = _
  unfold val_main_call1_v13
  rw [gather_at x2 _ j hl, e, id_nat x0 x1 h1]
  have ep : x1 (seqOf (idx_main_call1_v5 (posOf j))) = padAt x1 (j 0).val := at1_eq x1 _ rfl
  have ei : x0 (idx_main_call1_v5 (posOf j)) = at2 x0 (j 0).val (j 1).val := at2_eq x0 _ rfl rfl
  rw [ep, ei]
  show tabAt x2 (if (j 1).val < _ then _ else _) _ = _
  unfold refRow
  split <;> rfl

/-- The padding row, tiled. -/
theorem padRow (i : S4096x128.Idx) : val_main_v15 (F := F) x2 i = tabAt x2 100001 (i 1).val := by
  have hi : (i 1).val < 128 := (i 1).isLt
  rw [val_main_v15_apply, val_main_v14_apply, val_main_v13_apply, val_main_v12_apply, val_main_v11_apply, val_main_v10_apply]
  refine at2_eq x2 _ rfl ?_
  show (0 * 128 + ((i 0).val * 128 + (i 1).val) % 128) % 128 = (i 1).val
  omega

/-- The pad count as a number, along the columns. -/
theorem padCount (i : S4096x128.Idx) : val_main_v18 (F := F) x1 i = FloatOps.sitofp .f32 (padAt x1 (i 0).val) := by
  rw [val_main_v18_apply, val_main_v17_apply, val_main_v16_apply]
  exact congrArg _ (at1_eq x1 _ (show (i 0).val * 1 + 0 = (i 0).val by omega))

/-- The count of valid positions as a number, along the columns. -/
theorem validCount (i : S4096x128.Idx) :
    val_main_v24 (F := F) x1 i = FloatOps.sitofp .f32 (IntOp.subi 200#32 (padAt x1 (i 0).val)) := by
  rw [val_main_v24_apply, val_main_v23_apply, val_main_v22_apply, val_main_v3_apply, val_main_v2_apply, val_main_c_apply]
  exact congrArg (fun p => FloatOps.sitofp .f32 (IntOp.subi 200#32 p)) (at1_eq x1 _ (show (i 0).val * 1 + 0 = (i 0).val by omega))

end Cert.Pool

end
-- ==== Proof.Equal.lean ====
module

public import proofs.«01_k».proof.Proof.RefRows
public import Idealize.ShloMosaic.Lib.KernelVsHost
public import Idealize.ShloMosaic.Lib.IdealHost
public import Idealize.ShloMosaic.PureOps.Ideal.Laws

@[expose] public section

/-!
  At exact values the kernel's array of results is the reference's: the maximum over the valid rows and, if there is a
  padding position, the padding row is the maximum over all two hundred rows; the sum over the valid rows is the sum over
  all of them less the padding row times the pad count, the padding row being finite.
-/

noncomputable section

namespace Cert.Pool

open Idealize.ShloMosaic Cert.ReferenceIdeal Cert.ReferenceIdeal.Gen Cert.ReferenceIdeal.Read

/-! ### The kernel's recursions at exact values -/

/-- A maximum is at most `c` when what it is taken of is. -/
theorem maxA_le (init : ℕ → Ideal .f32) (rows : ℕ → ℕ → Ideal .f32) (x : ℕ) (c : EReal) :
    ∀ t, (maxA (F := Ideal) init rows x t : EReal) ≤ c ↔ (init x : EReal) ≤ c ∧ ∀ k < t, (rows k x : EReal) ≤ c
  | 0 => ⟨fun h => ⟨h, fun k hk => absurd hk (Nat.not_lt_zero k)⟩, fun h => h.1⟩
  | t + 1 => by
    show max (maxA (F := Ideal) init rows x t : EReal) (rows t x) ≤ c ↔ _
    rw [max_le_iff, maxA_le init rows x c t]
    constructor
    · rintro ⟨⟨h, hr⟩, ht⟩
      refine ⟨h, fun k hk => ?_⟩
      rcases Nat.lt_succ_iff_lt_or_eq.1 hk with hk | rfl
      exacts [hr k hk, ht]
    · rintro ⟨h, hr⟩
      exact ⟨⟨h, fun k hk => hr k (Nat.lt_succ_of_lt hk)⟩, hr t (Nat.lt_succ_self t)⟩

/-- A sum in order is the sum. -/
theorem sumA_eq (rows : ℕ → ℕ → Ideal .f32) (x : ℕ) :
    ∀ t, (sumA (F := Ideal) rows x t : EReal) = ∑ k ∈ Finset.range t, (rows k x : EReal)
  | 0 => Ideal.ofBits_zero_f32
  | t + 1 => by
    rw [Finset.sum_range_succ, ← sumA_eq rows x t]
    rfl

/-- A sum whose last `p` terms are one real. -/
theorem sum_pad (g : ℕ → EReal) (c : ℝ) (n p : ℕ) :
    ∑ k ∈ Finset.range (n + p), (if k < n then g k else (c : EReal)) = ∑ k ∈ Finset.range n, g k + ((c * p : ℝ) : EReal) := by
  rw [Finset.sum_range_add]
  congr 1
  · exact Finset.sum_congr rfl fun k hk => if_pos (Finset.mem_range.1 hk)
  · rw [Finset.sum_congr rfl fun k _ => if_neg (by omega : ¬n + k < n), Finset.sum_const, Finset.card_range, mul_comm, ← nsmul_eq_mul,
      EReal.coe_nsmul]

/-! ### The constants -/

theorem ofBits_bot : Ideal.ofBits .f32 0xFF800000#32 = (⊥ : EReal) := by
  simp [Ideal.ofBits, Ideal.ieee]

theorem ofBits_top : Ideal.ofBits .f32 0x7F800000#32 = (⊤ : EReal) := by
  simp [Ideal.ofBits, Ideal.ieee]

/-- A number whose absolute value is below plus infinity is a real. -/
theorem real_of_abs_lt {a : Ideal .f32}
    (h : FloatOps.cmpf (F := Ideal) .olt (FloatOps.hostAbsf a) (FloatOps.ofBits .f32 0x7F800000#32) = 1#1) : ∃ r : ℝ, (a : EReal) = (r : EReal) := by
  have h : Ideal.cmp .olt (max (a : EReal) (-a)) (Ideal.ofBits .f32 0x7F800000#32) = 1#1 := h
  rw [ofBits_top] at h
  have hlt : max (a : EReal) (-a) < ⊤ := by
    by_contra hn
    simp [Ideal.cmp, hn] at h
  obtain ⟨h1, h2⟩ := max_lt_iff.1 hlt
  refine ⟨(a : EReal).toReal, (EReal.coe_toReal h1.ne ?_).symm⟩
  intro hb
  have h2 : -(a : EReal) < ⊤ := h2
  rw [hb, EReal.neg_bot] at h2
  exact lt_irrefl _ h2

/-- A count below half the words, read as a signed integer, is itself. -/
theorem sitofp_nat {w : BitVec 32} (h : w.toNat < 2147483648) : (FloatOps.sitofp (F := Ideal) .f32 w : EReal) = ((w.toNat : ℝ) : EReal) := by
  show ((w.toInt : ℝ) : EReal) = _
  rw [BitVec.toInt_eq_toNat_of_lt (by omega)]
  norm_cast

/-! ### The rows -/

variable (x0 : (⟨S4096x200, .i32⟩ : BufTy).Contents (Elt Ideal)) (x1 : (⟨S4096, .i32⟩ : BufTy).Contents (Elt Ideal))
  (x2 : (⟨S100002x128, .f32⟩ : BufTy).Contents (Elt Ideal))

/-- The lists as the kernel is given them: rows of fifty. -/
abbrev lists (x : (⟨S4096x200, .i32⟩ : BufTy).Contents (Elt Ideal)) (h : S4096x200.ShapeCasts ⟨2, ![16384, 50]⟩) :
    (⟨2, ![16384, 50]⟩ : Shape).Idx → BitVec 32 := fun y => shapeCast ⟨2, ![16384, 50]⟩ x h y

/-- A position of a sequence. -/
abbrev place (b t : ℕ) : S4096x200.Idx := fun | 0 => Fin.ofNat 4096 b | 1 => Fin.ofNat 200 t

/-- The kernel's row `t` of sequence `b` is the table's at the list's word `t`. -/
theorem rowsOf_lists (h : S4096x200.ShapeCasts ⟨2, ![16384, 50]⟩) {b t : ℕ} (hb : b < 4096) (ht : t < 200) (x : ℕ) :
    rowsOf (F := Ideal) (lists x0 h) x2 b t x = tabAt (F := Ideal) x2 (at2 x0 b t).toNat x := by
  unfold rowsOf idsAt
  refine congrArg (fun w : BitVec 32 => tabAt (F := Ideal) x2 w.toNat x) ?_
  refine (shapeCast_apply x0 h _ (place b t) ?_).trans (at2_eq x0 _ (Nat.mod_eq_of_lt hb) (Nat.mod_eq_of_lt ht))
  rw [Shape.rowMajor_val_two, Shape.rowMajor_val_two]
  show b % 4096 * 200 + t % 200 = (4 * b + t / 50) % 16384 * 50 + t % 50 % 50
  omega

variable (h0 : ∀ j, (x0 j).toNat < 100000) (h1 : ∀ j, (x1 j).toNat < 200)

include h1 in
/-- The pad count is below two hundred. -/
theorem pad_lt (b : ℕ) : (padAt x1 b).toNat < 200 := h1 _

/-- Where the kernel's maxima start. -/
theorem initOf_eq (p : BitVec 32) (hp : p.toNat < 200) (x : ℕ) :
    (initOf (F := Ideal) x2 p x : EReal) = if 0 < p.toNat then tabAt (F := Ideal) x2 100001 x else (⊥ : EReal) := by
  unfold initOf
  rw [show Scalar.cmpi .sgt p 0#32 = IntOp.cmpi .sgt p 0#32 from rfl, WordCmp.cmpi_sgt_of_lt (by omega) (by decide)]
  split
  · next h => rw [decide_eq_true (by simpa using h)]; rfl
  · next h => rw [decide_eq_false (by simpa using h)]; exact ofBits_bot

include h1 in
/-- The maximum over all two hundred rows is the kernel's. -/
theorem max_eq (h : S4096x200.ShapeCasts ⟨2, ![16384, 50]⟩) {b : ℕ} (hb : b < 4096) (x : ℕ) :
    (Finset.univ : Finset (Fin 200)).fold max (⊥ : EReal) (fun k => (refRow x0 x1 x2 b k.val x : EReal))
      = (maxA (F := Ideal) (initOf x2 (padAt x1 b)) (rowsOf (lists x0 h) x2 b) x (200 - (padAt x1 b).toNat) : EReal) := by
  have hp := pad_lt x1 h1 b
  refine eq_of_forall_ge_iff fun c => ?_
  rw [Finset.fold_max_le, maxA_le, initOf_eq x2 _ hp]
  constructor
  · rintro ⟨-, hr⟩
    refine ⟨?_, fun k hk => ?_⟩
    · split
      · next hpos =>
        have e := hr ⟨199, by decide⟩ (Finset.mem_univ _)
        unfold refRow at e
        rwa [if_neg (by show ¬(199 < _); omega)] at e
      · exact bot_le
    · have e := hr ⟨k, by omega⟩ (Finset.mem_univ _)
      unfold refRow at e
      rw [if_pos (show k < _ from hk)] at e
      rw [rowsOf_lists x0 x2 h hb (by omega)]
      exact e
  · rintro ⟨hi, hr⟩
    refine ⟨bot_le, fun k _ => ?_⟩
    have hk := k.isLt
    unfold refRow
    split
    · next hv =>
      have e := hr k.val hv
      rwa [rowsOf_lists x0 x2 h hb hk] at e
    · next hv =>
      rwa [if_pos (by omega)] at hi

include h1 in
/-- The reference's quotient is the kernel's product. -/
theorem mean_eq (h : S4096x200.ShapeCasts ⟨2, ![16384, 50]⟩) (h2 : ∀ x, ∃ r : ℝ, (tabAt (F := Ideal) x2 100001 x : EReal) = (r : EReal)) {b : ℕ} (hb : b < 4096) (x : ℕ) :
    Ideal.div ((0 + ∑ k : Fin 200, (refRow x0 x1 x2 b k.val x : EReal))
        - (tabAt (F := Ideal) x2 100001 x : EReal) * (FloatOps.sitofp (F := Ideal) .f32 (padAt x1 b) : EReal))
        (FloatOps.sitofp (F := Ideal) .f32 (IntOp.subi 200#32 (padAt x1 b)) : EReal)
      = (FloatOps.mulf (F := Ideal) (φ := .f32) (sumA (rowsOf (lists x0 h) x2 b) x (200 - (padAt x1 b).toNat)) (scaleOf (padAt x1 b)) : EReal) := by
  have hp := pad_lt x1 h1 b
  have hs := sub_toNat hp
  obtain ⟨c, hc⟩ := h2 x
  obtain ⟨p, hpe⟩ : ∃ p, p = (padAt x1 b).toNat := ⟨_, rfl⟩
  have hn : (200 : ℕ) = (200 - p) + p := by omega
  have hrow : ∑ k : Fin 200, (refRow x0 x1 x2 b k.val x : EReal)
      = ∑ k ∈ Finset.range 200, (if k < 200 - p then (rowsOf (F := Ideal) (lists x0 h) x2 b k x : EReal) else (c : EReal)) := by
    rw [Finset.sum_range]
    refine Finset.sum_congr rfl fun k _ => ?_
    unfold refRow
    rw [← hpe, rowsOf_lists x0 x2 h hb k.isLt, hc]
  have hsum := sum_pad (fun k => (rowsOf (F := Ideal) (lists x0 h) x2 b k x : EReal)) c (200 - p) p
  rw [← hn] at hsum
  have hpos : (((200 - p : ℕ) : ℝ) : EReal) ≠ 0 := by
    have : 0 < 200 - p := by omega
    exact_mod_cast this.ne'
  rw [hrow, hsum, hc, sitofp_nat (by omega), sitofp_nat (by rw [hs]; omega), hs, ← hpe]
  show _ = (sumA (F := Ideal) (rowsOf (lists x0 h) x2 b) x (200 - p) : EReal)
    * Ideal.div (Ideal.ofBits .f32 0x3F800000#32)
        (Ideal.ofBits .f32 0x3F800000#32 * (FloatOps.sitofp (F := Ideal) .f32 (IntOp.subi 200#32 (padAt x1 b)) : EReal))
  rw [sumA_eq, Ideal.ofBits_one_f32, sitofp_nat (by rw [hs]; omega), hs, ← hpe, one_mul, zero_add, ← EReal.coe_mul,
    EReal.add_sub_cancel_right]
  unfold Ideal.div
  rw [if_neg hpos, if_neg hpos, one_mul]

/-! ### The result -/

include h0 h1 in
/-- The reference's maxima at an element. -/
theorem maxima_at (i : S4096x128.Idx) : (val_main_v26 (F := Ideal) x0 x1 x2 i : EReal)
    = (Finset.univ : Finset (Fin 200)).fold max (⊥ : EReal) (fun k => (refRow x0 x1 x2 (i 0).val k.val (i 1).val : EReal)) := by
  unfold val_main_v26 val_main_cst_1
  rw [hostReduce_maximumf_eq_multiReduction _ _ _ _ (by decide) (by decide) (by decide), Ideal.multiReduction_maximumf_single]
  show Finset.fold max (Ideal.ofBits .f32 0xFF800000#32) _ _ = _
  rw [ofBits_bot]
  refine congrArg (fun f => Finset.fold max (⊥ : EReal) f Finset.univ) (funext fun k => ?_)
  rw [Function.comp_apply, taken x0 x1 x2 h0 h1]
  rfl

/-- An element of one half of the columns. -/
abbrev low (b x : ℕ) (hb : b < 4096) (hx : x < 128) : S4096x128.Idx := fun a => match a with
  | ⟨0, _⟩ => ⟨b, hb⟩
  | ⟨1, _⟩ => ⟨x, hx⟩

include h0 h1 in
/-- The reference's result is the kernel's array of results. -/
theorem value_eq (h : S4096x200.ShapeCasts ⟨2, ![16384, 50]⟩) (h2 : ∀ x, ∃ r : ℝ, (tabAt (F := Ideal) x2 100001 x : EReal) = (r : EReal)) :
    val_main_v27 (F := Ideal) x0 x1 x2 = outArr (F := Ideal) (lists x0 h) x1 x2 := by
  funext i
  have hi0 : (i 0).val < 4096 := (i 0).isLt
  have hi1 : (i 1).val < 256 := (i 1).isLt
  unfold val_main_v27 outArr outAt
  split
  · next hx =>
    refine (concatenate_pair_apply_left (t := S4096x256) (s₁ := S4096x128) (s₂ := S4096x128) 1 _ _ _ i rfl
      (low (i 0).val (i 1).val hi0 hx) (fun b => by match b with | 0 => rfl | 1 => rfl)).trans ?_
    exact (maxima_at x0 x1 x2 h0 h1 _).trans (max_eq x0 x1 x2 h1 h hi0 _)
  · next hx =>
    refine (concatenate_pair_apply_right (t := S4096x256) (s₁ := S4096x128) (s₂ := S4096x128) 1 _ _ _ i rfl rfl
      (low (i 0).val ((i 1).val - 128) hi0 (by omega))
      (fun b hb => by match b with | 0 => rfl | 1 => exact absurd rfl hb) (by show (i 1).val - 128 + 128 = (i 1).val; omega)).trans ?_
    rw [val_main_v25_apply, val_main_v21_apply, val_main_v20_apply, val_main_v19_apply, padRow, padCount, validCount, val_main_cst_apply]
    refine Eq.trans ?_ (mean_eq x0 x1 x2 h1 h h2 hi0 ((i 1).val - 128))
    have e0 : FloatOps.ofBits (F := Ideal) .f32 0x00000000#32 = (0 : EReal) := Ideal.ofBits_zero_f32
    rw [e0]
    simp only [taken x0 x1 x2 h0 h1]
    rfl

end Cert.Pool

end
-- ==== Proof.Agree.lean ====
module

public import proofs.«01_k».proof.Proof.Frames
public import proofs.«01_k».proof.Proof.Equal
public import proofs.«01_k».proof.Proof.Gen.ReferenceIdeal

@[expose] public section

/-!
  The reference's frames, and that the kernel's run and the reference's end with one array.
-/

noncomputable section

namespace Cert.Pool

open Idealize.ShloMosaic Idealize.SL.Sem

theorem frame_ref : Cert.quiescent_ReferenceIdeal := fun m g _ =>
  (θ_run Cert.ReferenceIdeal.defs _ _).mono
    (fun _ r => ⟨fun c => (r c).2, sem_eq_zero_of_no_sems (by decide) _⟩) (Cert.ReferenceIdeal.Value.run (F := Ideal) m g)

theorem frame_ref_drawn : Cert.quiescent_ReferenceIdeal_pre_drawn := fun m g _ =>
  (θ_run Cert.ReferenceIdeal.defs _ _).mono
    (fun _ r => ⟨fun c => (r c).2, sem_eq_zero_of_no_sems (by decide) _⟩) (Cert.ReferenceIdeal.Value.run (F := Ideal) m g)

/-- Both runs end with the array of results of the launch memory. -/
theorem agree : Cert.algebraic_KernelIdeal_ReferenceIdeal_pre_drawn := fun m g m' g' hp ha =>
  ⟨fun c => Cert.KernelIdeal.Pool.outOf m c,
    (θ_run Cert.KernelIdeal.defs _ _).mono
      (fun _ r c => ⟨(r.1 c).2.2.2, (r.1 c).1, (r.1 c).2.1, (r.1 c).2.2.1⟩)
      (Cert.KernelIdeal.Pool.run_main (F := Ideal) m g (ok_of_words m fun d => ⟨(drawn_parts (hp d)).1, (drawn_parts (hp d)).2.1⟩)),
    (θ_run Cert.ReferenceIdeal.defs _ _).mono
      (fun _ r c => by
        refine ⟨(r c).1.trans ?_, (r c).2⟩
        obtain ⟨e0, e1, e2⟩ := ha c
        obtain ⟨p0, p1, p2⟩ := drawn_parts (hp c)
        rw [Cert.ReferenceIdeal.Read.val_main_v27_eq, e0, e1, e2]
        exact value_eq _ _ _ p0 p1 _ fun x => real_of_abs_lt (p2 x))
      (Cert.ReferenceIdeal.Value.run (F := Ideal) m' g')⟩

end Cert.Pool

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.Agree
public import proofs.«01_k».proof.Proof.Gen.Pre_drawn
public import proofs.«01_k».proof.Proof.Gen.Pre_ranges
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ranges.Gen.facts, Cert.Pre_drawn.Gen.facts,
    Cert.Pool.frame_bits, Cert.Pool.frame_ideal, Cert.Pool.frame_ideal_drawn, Cert.Pool.frame_ref, Cert.Pool.frame_ref_drawn, trivial, Cert.Pool.agree⟩

end Cert.Proof

end
